-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_v15_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4608 : Shape := ⟨3, ![4, 2048, 4608]⟩
abbrev S4608 : Shape := ⟨1, ![4608]⟩
abbrev S4x2048 : Shape := ⟨2, ![4, 2048]⟩
abbrev S4608x4096 : Shape := ⟨2, ![4608, 4096]⟩
abbrev S4096 : Shape := ⟨1, ![4096]⟩
abbrev S64 : Shape := ⟨1, ![64]⟩
abbrev S_ : Shape := ⟨0, ![]⟩
abbrev S128 : Shape := ⟨1, ![128]⟩
abbrev S1x128 : Shape := ⟨2, ![1, 128]⟩
abbrev S8192x4608 : Shape := ⟨2, ![8192, 4608]⟩
abbrev S8192x1 : Shape := ⟨2, ![8192, 1]⟩
abbrev S1x4608 : Shape := ⟨2, ![1, 4608]⟩
abbrev S1x4096 : Shape := ⟨2, ![1, 4096]⟩
abbrev S131072x128 : Shape := ⟨2, ![131072, 128]⟩
abbrev S65536x128 : Shape := ⟨2, ![65536, 128]⟩
abbrev S256x4608 : Shape := ⟨2, ![256, 4608]⟩
abbrev S256x1 : Shape := ⟨2, ![256, 1]⟩
abbrev S4096x128 : Shape := ⟨2, ![4096, 128]⟩
abbrev S2048x128 : Shape := ⟨2, ![2048, 128]⟩
abbrev S2x256x4608 : Shape := ⟨3, ![2, 256, 4608]⟩
abbrev S2x256x128 : Shape := ⟨3, ![2, 256, 128]⟩
abbrev S32x4608 : Shape := ⟨2, ![32, 4608]⟩
abbrev S32 : Shape := ⟨1, ![32]⟩
abbrev S32x1 : Shape := ⟨2, ![32, 1]⟩
abbrev S1x32x4608 : Shape := ⟨3, ![1, 32, 4608]⟩
abbrev S32x128 : Shape := ⟨2, ![32, 128]⟩
abbrev S1x32x128 : Shape := ⟨3, ![1, 32, 128]⟩
abbrev S1x256x4608 : Shape := ⟨3, ![1, 256, 4608]⟩
abbrev S1x256x128 : Shape := ⟨3, ![1, 256, 128]⟩
abbrev S256x128 : Shape := ⟨2, ![256, 128]⟩
abbrev S4608x256 : Shape := ⟨2, ![4608, 256]⟩
abbrev S256x256 : Shape := ⟨2, ![256, 256]⟩
abbrev S2048x2x128 : Shape := ⟨3, ![2048, 2, 128]⟩
abbrev S256x2x128 : Shape := ⟨3, ![256, 2, 128]⟩
abbrev S256x1x128 : Shape := ⟨3, ![256, 1, 128]⟩
abbrev S1024x128 : Shape := ⟨2, ![1024, 128]⟩
abbrev S1024x2x128 : Shape := ⟨3, ![1024, 2, 128]⟩

abbrev nBuf : Space → Nat
  | .hbm => 30
  | .vmem => 24
  | .smem => 0
  | _ => 0

abbrev bufTy : (tb : Table) → Fin (tcTables nBuf tb) → BufTy
  | .hbm, ⟨0, _⟩ => ⟨S4x2048x4608, .bf16⟩
  | .hbm, ⟨1, _⟩ => ⟨S4608, .f32⟩
  | .hbm, ⟨2, _⟩ => ⟨S4x2048, .i32⟩
  | .hbm, ⟨3, _⟩ => ⟨S4608x4096, .fp8e4m3⟩
  | .hbm, ⟨4, _⟩ => ⟨S4096, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S8192x4608, .bf16⟩
  | .hbm, ⟨22, _⟩ => ⟨S8192x1, .i32⟩
  | .hbm, ⟨23, _⟩ => ⟨S1x4608, .f32⟩
  | .hbm, ⟨24, _⟩ => ⟨S1x4096, .f32⟩
  | .hbm, ⟨25, _⟩ => ⟨S131072x128, .bf16⟩
  | .hbm, ⟨26, _⟩ => ⟨S65536x128, .bf16⟩
  | .hbm, ⟨27, _⟩ => ⟨S65536x128, .bf16⟩
  | .hbm, ⟨28, _⟩ => ⟨S8192x4608, .fp8e4m3⟩
  | .hbm, ⟨29, _⟩ => ⟨S8192x1, .f32⟩
  | .local _ .vmem, ⟨0, _⟩ => ⟨S256x4608, .bf16⟩
  | .local _ .vmem, ⟨1, _⟩ => ⟨S256x4608, .bf16⟩
  | .local _ .vmem, ⟨2, _⟩ => ⟨S256x4608, .bf16⟩
  | .local _ .vmem, ⟨3, _⟩ => ⟨S256x1, .i32⟩
  | .local _ .vmem, ⟨4, _⟩ => ⟨S256x1, .i32⟩
  | .local _ .vmem, ⟨5, _⟩ => ⟨S256x1, .i32⟩
  | .local _ .vmem, ⟨6, _⟩ => ⟨S1x4608, .f32⟩
  | .local _ .vmem, ⟨7, _⟩ => ⟨S1x128, .f32⟩
  | .local _ .vmem, ⟨8, _⟩ => ⟨S4608x4096, .fp8e4m3⟩
  | .local _ .vmem, ⟨9, _⟩ => ⟨S1x4096, .f32⟩
  | .local _ .vmem, ⟨10, _⟩ => ⟨S4096x128, .bf16⟩
  | .local _ .vmem, ⟨11, _⟩ => ⟨S4096x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S256x4608, .fp8e4m3⟩
  | .local _ .vmem, ⟨17, _⟩ => ⟨S256x4608, .fp8e4m3⟩
  | .local _ .vmem, ⟨18, _⟩ => ⟨S256x1, .f32⟩
  | .local _ .vmem, ⟨19, _⟩ => ⟨S256x1, .f32⟩
  | .local _ .vmem, ⟨20, _⟩ => ⟨S2x256x4608, .fp8e4m3⟩
  | .local _ .vmem, ⟨21, _⟩ => ⟨S2x256x128, .f32⟩
  | .local _ .vmem, ⟨22, _⟩ => ⟨S2x256x128, .f32⟩
  | .local _ .vmem, ⟨23, _⟩ => ⟨S2x256x128, .f32⟩
  | _, _ => ⟨S4x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_374 : BitVec 32 := 0#32
  let c8_i32 : BitVec 32 := 8#32
  let v1012 : BitVec 32 := Scalar.addi c0_i32_374 c8_i32
  let c1_i32_375 : BitVec 32 := 1#32
  ⟨c0_i32_374, v1012, c1_i32_375⟩
def k0_off1 (k0_t1 : Fin k0_t1_loop.trips) : Fin 2 → Nat :=
  let c0_i32_374 : BitVec 32 := 0#32
  let c1_i32_375 : BitVec 32 := 1#32
  let arg18 : BitVec 32 := Scf.iv c0_i32_374 c1_i32_375 k0_t1
  let c32_i32 : BitVec 32 := 32#32
  let v1013 : BitVec 32 := Scalar.muli arg18 c32_i32
  let v1014 : Index := Scalar.indexCast v1013
  let c0_377 : Index := 0#32
  ![v1014.toNat, 0]
def k0_off2 (k0_t1 : Fin k0_t1_loop.trips) : Fin 3 → Nat :=
  let c0_392 : Index := 0#32
  let c0_i32_374 : BitVec 32 := 0#32
  let c1_i32_375 : BitVec 32 := 1#32
  let arg18 : BitVec 32 := Scf.iv c0_i32_374 c1_i32_375 k0_t1
  let c32_i32 : BitVec 32 := 32#32
  let v1013 : BitVec 32 := Scalar.muli arg18 c32_i32
  let v1059 : Index := Scalar.indexCast v1013
  let c0_393 : Index := 0#32
  ![0, v1059.toNat, 0]
def k0_off3 (k0_t1 : Fin k0_t1_loop.trips) : Fin 3 → Nat :=
  let c0_394 : Index := 0#32
  let c0_i32_374 : BitVec 32 := 0#32
  let c1_i32_375 : BitVec 32 := 1#32
  let arg18 : BitVec 32 := Scf.iv c0_i32_374 c1_i32_375 k0_t1
  let c32_i32 : BitVec 32 := 32#32
  let v1013 : BitVec 32 := Scalar.muli arg18 c32_i32
  let v1065 : Index := Scalar.indexCast v1013
  let c0_395 : Index := 0#32
  ![0, v1065.toNat, 0]
def k0_off4 (k0_t1 : Fin k0_t1_loop.trips) : Fin 2 → Nat :=
  let c0_i32_374 : BitVec 32 := 0#32
  let c1_i32_375 : BitVec 32 := 1#32
  let arg18 : BitVec 32 := Scf.iv c0_i32_374 c1_i32_375 k0_t1
  let c32_i32 : BitVec 32 := 32#32
  let v1013 : BitVec 32 := Scalar.muli arg18 c32_i32
  let v1069 : Index := Scalar.indexCast v1013
  let c0_396 : Index := 0#32
  ![v1069.toNat, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v5 : Index := Scalar.indexCast v0
  let c0 : Index := 0#32
  let c0_1 : Index := 0#32
  ![v5.toNat, 0, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v8 : Index := Scalar.indexCast v0
  let c0_2 : Index := 0#32
  let c0_3 : Index := 0#32
  ![v8.toNat, 0, 0]
def k0_off7 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v86 : Index := Scalar.indexCast v1
  let c0_32 : Index := 0#32
  let c0_33 : Index := 0#32
  ![v86.toNat, 0, 0]
def k0_off8 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v92 : Index := Scalar.indexCast v1
  let c0_34 : Index := 0#32
  let c0_35 : Index := 0#32
  ![v92.toNat, 0, 0]
def k0_off9 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v214 : Index := Scalar.indexCast v1
  let c32_77 : Index := 32#32
  let c0_78 : Index := 0#32
  ![v214.toNat, 32, 0]
def k0_off10 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v220 : Index := Scalar.indexCast v1
  let c32_79 : Index := 32#32
  let c0_80 : Index := 0#32
  ![v220.toNat, 32, 0]
def k0_off11 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v342 : Index := Scalar.indexCast v1
  let c64_122 : Index := 64#32
  let c0_123 : Index := 0#32
  ![v342.toNat, 64, 0]
def k0_off12 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v348 : Index := Scalar.indexCast v1
  let c64_124 : Index := 64#32
  let c0_125 : Index := 0#32
  ![v348.toNat, 64, 0]
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v470 : Index := Scalar.indexCast v1
  let c96_167 : Index := 96#32
  let c0_168 : Index := 0#32
  ![v470.toNat, 96, 0]
def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v476 : Index := Scalar.indexCast v1
  let c96_169 : Index := 96#32
  let c0_170 : Index := 0#32
  ![v476.toNat, 96, 0]
def k0_off15 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v598 : Index := Scalar.indexCast v1
  let c128_214 : Index := 128#32
  let c0_215 : Index := 0#32
  ![v598.toNat, 128, 0]
def k0_off16 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v604 : Index := Scalar.indexCast v1
  let c128_216 : Index := 128#32
  let c0_217 : Index := 0#32
  ![v604.toNat, 128, 0]
def k0_off17 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v726 : Index := Scalar.indexCast v1
  let c160_261 : Index := 160#32
  let c0_262 : Index := 0#32
  ![v726.toNat, 160, 0]
def k0_off18 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v732 : Index := Scalar.indexCast v1
  let c160_263 : Index := 160#32
  let c0_264 : Index := 0#32
  ![v732.toNat, 160, 0]
def k0_off19 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v846 : Index := Scalar.indexCast v1
  let c192_306 : Index := 192#32
  let c0_307 : Index := 0#32
  ![v846.toNat, 192, 0]
def k0_off20 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v852 : Index := Scalar.indexCast v1
  let c192_308 : Index := 192#32
  let c0_309 : Index := 0#32
  ![v852.toNat, 192, 0]
def k0_off21 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v958 : Index := Scalar.indexCast v1
  let c224_349 : Index := 224#32
  let c0_350 : Index := 0#32
  ![v958.toNat, 224, 0]
def k0_off22 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v964 : Index := Scalar.indexCast v1
  let c224_351 : Index := 224#32
  let c0_352 : Index := 0#32
  ![v964.toNat, 224, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4608x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4608 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F]
-- ==== ReferenceIdeal.lean ====
abbrev S4x2048x4608 : Shape := ⟨3, ![4, 2048, 4608]⟩
abbrev S4608 : Shape := ⟨1, ![4608]⟩
abbrev S4x2048 : Shape := ⟨2, ![4, 2048]⟩
abbrev S4608x4096 : Shape := ⟨2, ![4608, 4096]⟩
abbrev S4096 : Shape := ⟨1, ![4096]⟩
abbrev S64 : Shape := ⟨1, ![64]⟩
abbrev S_ : Shape := ⟨0, ![]⟩
abbrev S8192x4608 : Shape := ⟨2, ![8192, 4608]⟩
abbrev S1x4608 : Shape := ⟨2, ![1, 4608]⟩
abbrev S8192x1 : Shape := ⟨2, ![8192, 1]⟩
abbrev S1x64 : Shape := ⟨2, ![1, 64]⟩
abbrev S1x4096 : Shape := ⟨2, ![1, 4096]⟩
abbrev S131072x128 : Shape := ⟨2, ![131072, 128]⟩
abbrev S65536x128 : Shape := ⟨2, ![65536, 128]⟩
abbrev S8192 : Shape := ⟨1, ![8192]⟩
abbrev S8192x4096 : Shape := ⟨2, ![8192, 4096]⟩
abbrev S8192x2048 : Shape := ⟨2, ![8192, 2048]⟩
abbrev S8192x16x128 : Shape := ⟨3, ![8192, 16, 128]⟩
abbrev S8192x1024 : Shape := ⟨2, ![8192, 1024]⟩
abbrev S8192x8x128 : Shape := ⟨3, ![8192, 8, 128]⟩
abbrev S8192x64 : Shape := ⟨2, ![8192, 64]⟩
abbrev S8192x1x64 : Shape := ⟨3, ![8192, 1, 64]⟩
abbrev S8192x16x64 : Shape := ⟨3, ![8192, 16, 64]⟩
abbrev S8192x8x64 : Shape := ⟨3, ![8192, 8, 64]⟩

abbrev nBuf : Space → Nat
  | .hbm => 29
  | .vmem => 11
  | .smem => 0
  | _ => 0

abbrev bufTy : (tb : Table) → Fin (tcTables nBuf tb) → BufTy
  | .hbm, ⟨0, _⟩ => ⟨S4x2048x4608, .bf16⟩
  | .hbm, ⟨1, _⟩ => ⟨S4608, .f32⟩
  | .hbm, ⟨2, _⟩ => ⟨S4x2048, .i32⟩
  | .hbm, ⟨3, _⟩ => ⟨S4608x4096, .fp8e4m3⟩
  | .hbm, ⟨4, _⟩ => ⟨S4096, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S8192x4608, .bf16⟩
  | .hbm, ⟨20, _⟩ => ⟨S1x4608, .f32⟩
  | .hbm, ⟨21, _⟩ => ⟨S8192x1, .i32⟩
  | .hbm, ⟨22, _⟩ => ⟨S1x64, .f32⟩
  | .hbm, ⟨23, _⟩ => ⟨S1x4096, .f32⟩
  | .hbm, ⟨24, _⟩ => ⟨S131072x128, .bf16⟩
  | .hbm, ⟨25, _⟩ => ⟨S65536x128, .bf16⟩
  | .hbm, ⟨26, _⟩ => ⟨S65536x128, .bf16⟩
  | .hbm, ⟨27, _⟩ => ⟨S8192x4608, .fp8e4m3⟩
  | .hbm, ⟨28, _⟩ => ⟨S8192x1, .f32⟩
  | .local _ .vmem, ⟨0, _⟩ => ⟨S8192x4608, .bf16⟩
  | .local _ .vmem, ⟨1, _⟩ => ⟨S1x4608, .f32⟩
  | .local _ .vmem, ⟨2, _⟩ => ⟨S8192x1, .i32⟩
  | .local _ .vmem, ⟨3, _⟩ => ⟨S1x64, .f32⟩
  | .local _ .vmem, ⟨4, _⟩ => ⟨S4608x4096, .fp8e4m3⟩
  | .local _ .vmem, ⟨5, _⟩ => ⟨S1x4096, .f32⟩
  | .local _ .vmem, ⟨6, _⟩ => ⟨S131072x128, .bf16⟩
  | .local _ .vmem, ⟨7, _⟩ => ⟨S65536x128, .bf16⟩
  | .local _ .vmem, ⟨8, _⟩ => ⟨S65536x128, .bf16⟩
  | .local _ .vmem, ⟨9, _⟩ => ⟨S8192x4608, .fp8e4m3⟩
  | .local _ .vmem, ⟨10, _⟩ => ⟨S8192x1, .f32⟩
  | _, _ => ⟨S4x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S131072x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S65536x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S65536x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x4608 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelFrame.lean ====
/- Hand-written, untrusted. The frame of `Kernel` at any bit-level instance: the body is run once for the first grid point and
   once for the others, every output and scratch is forgotten, and the arguments are read back off the run's post. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

/-- The body, run from all its buffers held at any contents, returns every input as it was and every output and scratch at
    some contents; the three strided outputs are held through the reshaped memrefs the body stores through. -/
theorem kernelRun (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ ((arg9.reshape S2048x2x128 reshapes_S4096x128_S2048x2x128.1 reshapes_S4096x128_S2048x2x128.2 harg9.contiguous).view.loc (c : Thread nD τ) ↦[(arg9.reshape S2048x2x128 reshapes_S4096x128_S2048x2x128.1 reshapes_S4096x128_S2048x2x128.2 harg9.contiguous).view.set]{fullShare} f9) ∗ ((arg10.reshape S1024x2x128 reshapes_S2048x128_S1024x2x128.1 reshapes_S2048x128_S1024x2x128.2 harg10.contiguous).view.loc (c : Thread nD τ) ↦[(arg10.reshape S1024x2x128 reshapes_S2048x128_S1024x2x128.1 reshapes_S2048x128_S1024x2x128.2 harg10.contiguous).view.set]{fullShare} f10) ∗ ((arg11.reshape S1024x2x128 reshapes_S2048x128_S1024x2x128.1 reshapes_S2048x128_S1024x2x128.2 harg11.contiguous).view.loc (c : Thread nD τ) ↦[(arg11.reshape S1024x2x128 reshapes_S2048x128_S1024x2x128.1 reshapes_S2048x128_S1024x2x128.2 harg11.contiguous).view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g, ((arg9.reshape S2048x2x128 reshapes_S4096x128_S2048x2x128.1 reshapes_S4096x128_S2048x2x128.2 harg9.contiguous).view.loc (c : Thread nD τ) ↦[(arg9.reshape S2048x2x128 reshapes_S4096x128_S2048x2x128.1 reshapes_S4096x128_S2048x2x128.2 harg9.contiguous).view.set]{fullShare} g)) ∗ (∃ g, ((arg10.reshape S1024x2x128 reshapes_S2048x128_S1024x2x128.1 reshapes_S2048x128_S1024x2x128.2 harg10.contiguous).view.loc (c : Thread nD τ) ↦[(arg10.reshape S1024x2x128 reshapes_S2048x128_S1024x2x128.1 reshapes_S2048x128_S1024x2x128.2 harg10.contiguous).view.set]{fullShare} g)) ∗ (∃ g, ((arg11.reshape S1024x2x128 reshapes_S2048x128_S1024x2x128.1 reshapes_S2048x128_S1024x2x128.2 harg11.contiguous).view.loc (c : Thread nD τ) ↦[(arg11.reshape S1024x2x128 reshapes_S2048x128_S1024x2x128.1 reshapes_S2048x128_S1024x2x128.2 harg11.contiguous).view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g))) -∗ K ⟨⟩))
      ⊢ wp frame (wpE (defs₀ (F := F)) Variants.none (c : Thread nD τ) none) Set.univ (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_rmsnorm_fp8_qkv_rope_eq_skeleton]; unfold cc0_rmsnorm_fp8_qkv_rope_skel
  iintro ⟨H1, H2, H3, H4, H5, H6, H7, H8, H9, H10, H11, H12, H13, H14, H15, H16, H17, Hk⟩
  by_cases hc : k0_cond1 i = 1#1
  all_goals
    sl_exec (disch := sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

/-- `kernelRun` with the buffers held as the pipeline holds them. -/
theorem kernelRun' (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (x1 : S256x4608.Idx → Elt F .bf16) (x2 : S256x4608.Idx → Elt F .bf16) (x3 : S256x1.Idx → Elt F .i32) (x4 : S256x1.Idx → Elt F .i32) (x5 : S1x4608.Idx → Elt F .f32) (x6 : S1x128.Idx → Elt F .f32) (x7 : S4608x4096.Idx → Elt F .fp8e4m3) (x8 : S1x4096.Idx → Elt F .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) Set.univ (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have e9 : (arg9.reshape S2048x2x128 reshapes_S4096x128_S2048x2x128.1 reshapes_S4096x128_S2048x2x128.2 harg9.contiguous).view.set = arg9.view.set := View.set_reshape _ _
  have e10 : (arg10.reshape S1024x2x128 reshapes_S2048x128_S1024x2x128.1 reshapes_S2048x128_S1024x2x128.2 harg10.contiguous).view.set = arg10.view.set := View.set_reshape _ _
  have e11 : (arg11.reshape S1024x2x128 reshapes_S2048x128_S1024x2x128.1 reshapes_S2048x128_S1024x2x128.2 harg11.contiguous).view.set = arg11.view.set := View.set_reshape _ _
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  iapply (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 K)
  rw [e9, e10, e11]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩⟩
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

variable (m : (ℓ : Loc nD τ sig) → Buf (Elt F) ℓ) (ρ : Dev nD → PrngReg)

/-! ## The proof data and the body obligation -/

/-- Window 0's staging memref at point `t`, as the pipeline passes it, and that it is whole. -/
abbrev ms0_0 (t : Fin cfg0.N) : Memref sig .tc .vmem S256x4608 .bf16 := win0_0.stage (cfg0.slots t 0)
abbrev hs0_0 (t : Fin cfg0.N) : (ms0_0 t).IsWhole := hstage0_0 ((cfg0.slots t 0).cast nbuf0_0)
/-- Window 1's staging memref at point `t`, as the pipeline passes it, and that it is whole. -/
abbrev ms0_1 (t : Fin cfg0.N) : Memref sig .tc .vmem S256x4608 .bf16 := win0_1.stage (cfg0.slots t 1)
abbrev hs0_1 (t : Fin cfg0.N) : (ms0_1 t).IsWhole := hstage0_1 ((cfg0.slots t 1).cast nbuf0_1)
/-- Window 2's staging memref at point `t`, as the pipeline passes it, and that it is whole. -/
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
/-- Window 3's staging memref at point `t`, as the pipeline passes it, and that it is whole. -/
abbrev ms0_3 (t : Fin cfg0.N) : Memref sig .tc .vmem S256x1 .i32 := win0_3.stage (cfg0.slots t 3)
abbrev hs0_3 (t : Fin cfg0.N) : (ms0_3 t).IsWhole := hstage0_3 ((cfg0.slots t 3).cast nbuf0_3)
/-- Window 4's staging memref at point `t`, as the pipeline passes it, and that it is whole. -/
abbrev ms0_4 (t : Fin cfg0.N) : Memref sig .tc .vmem S1x4608 .f32 := win0_4.stage (cfg0.slots t 4)
abbrev hs0_4 (t : Fin cfg0.N) : (ms0_4 t).IsWhole := hstage0_4 ((cfg0.slots t 4).cast nbuf0_4)
/-- Window 5's staging memref at point `t`, as the pipeline passes it, and that it is whole. -/
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- Window 6's staging memref at point `t`, as the pipeline passes it, and that it is whole. -/
abbrev ms0_6 (t : Fin cfg0.N) : Memref sig .tc .vmem S4608x4096 .fp8e4m3 := win0_6.stage (cfg0.slots t 6)
abbrev hs0_6 (t : Fin cfg0.N) : (ms0_6 t).IsWhole := hstage0_6 ((cfg0.slots t 6).cast nbuf0_6)
/-- Window 7's staging memref at point `t`, as the pipeline passes it, and that it is whole. -/
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
/-- Window 8's staging memref at point `t`, as the pipeline passes it, and that it is whole. -/
abbrev ms0_8 (t : Fin cfg0.N) : Memref sig .tc .vmem S4096x128 .bf16 := win0_8.stage (cfg0.slots t 8)
abbrev hs0_8 (t : Fin cfg0.N) : (ms0_8 t).IsWhole := hstage0_8 ((cfg0.slots t 8).cast nbuf0_8)
/-- Window 9's staging memref at point `t`, as the pipeline passes it, and that it is whole. -/
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
/-- Window 10's staging memref at point `t`, as the pipeline passes it, and that it is whole. -/
abbrev ms0_10 (t : Fin cfg0.N) : Memref sig .tc .vmem S2048x128 .bf16 := win0_10.stage (cfg0.slots t 10)
abbrev hs0_10 (t : Fin cfg0.N) : (ms0_10 t).IsWhole := hstage0_10 ((cfg0.slots t 10).cast nbuf0_10)
/-- Window 11's staging memref at point `t`, as the pipeline passes it, and that it is whole. -/
abbrev ms0_11 (t : Fin cfg0.N) : Memref sig .tc .vmem S256x4608 .fp8e4m3 := win0_11.stage (cfg0.slots t 11)
abbrev hs0_11 (t : Fin cfg0.N) : (ms0_11 t).IsWhole := hstage0_11 ((cfg0.slots t 11).cast nbuf0_11)
/-- Window 12's staging memref at point `t`, as the pipeline passes it, and that it is whole. -/
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)

/-- The five outputs are forgotten. -/
def forgets0 : Fin 13 → Bool := fun w => decide (8 ≤ w.val)

/-- The proof data on core `c`: each input leaves its block in place, each output is unnamed, the scratches are at anything. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t | 6 => iblk m c 6 t | 7 => iblk m c 7 t
    | 8 => Pipeline.Dat.unnamed (cfg := cfg0) 8 t | 9 => Pipeline.Dat.unnamed (cfg := cfg0) 9 t | 10 => Pipeline.Dat.unnamed (cfg := cfg0) 10 t | 11 => Pipeline.Dat.unnamed (cfg := cfg0) 11 t | 12 => Pipeline.Dat.unnamed (cfg := cfg0) 12 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d))
/-- What the body returns at point `t`. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d))

/-- The body at the point: the scratches opened, `kernelRun'`, the scratches closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨HS0, HS1, HS2, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  iapply (kernelRun' c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) _)
  rw [before0_0_of m (dats m 0 c) (A_eq m c 0) (fun _ => by dsimp only [dats]) t d0]
  rw [before0_1_of m (dats m 0 c) (A_eq m c 1) (fun _ => by dsimp only [dats]) t d1]
  rw [before0_2_of m (dats m 0 c) (A_eq m c 2) (fun _ => by dsimp only [dats]) t d2]
  rw [before0_3_of m (dats m 0 c) (A_eq m c 3) (fun _ => by dsimp only [dats]) t d3]
  rw [before0_4_of m (dats m 0 c) (A_eq m c 4) (fun _ => by dsimp only [dats]) t d4]
  rw [before0_5_of m (dats m 0 c) (A_eq m c 5) (fun _ => by dsimp only [dats]) t d5]
  rw [before0_6_of m (dats m 0 c) (A_eq m c 6) (fun _ => by dsimp only [dats]) t d6]
  rw [before0_7_of m (dats m 0 c) (A_eq m c 7) (fun _ => by dsimp only [dats]) t d7]
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, H12, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every run of the program ends, with every unscoped buffer that is no output at its launch contents and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: every run ends with the arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 6 rfl).trans (V_main_arg3 m c),
      ((h.1 c).2 main_arg4 (Pipeline.mem_restRefs_of main_arg4 (by decide) (by decide))).trans (V_main_arg4 m c)⟩, h.2⟩) (run_main m ρ)

end Cert.Kernel.Hand

end
-- ==== Proof.KernelIdealFrame.lean ====
/- Hand-written, untrusted. The frame of `Kernel` at any bit-level instance: the body is run once for the first grid point and
   once for the others, every output and scratch is forgotten, and the arguments are read back off the run's post. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- The body, run from all its buffers held at any contents, returns every input as it was and every output and scratch at
    some contents; the three strided outputs are held through the reshaped memrefs the body stores through. -/
theorem kernelRun (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ ((arg9.reshape S2048x2x128 reshapes_S4096x128_S2048x2x128.1 reshapes_S4096x128_S2048x2x128.2 harg9.contiguous).view.loc (c : Thread nD τ) ↦[(arg9.reshape S2048x2x128 reshapes_S4096x128_S2048x2x128.1 reshapes_S4096x128_S2048x2x128.2 harg9.contiguous).view.set]{fullShare} f9) ∗ ((arg10.reshape S1024x2x128 reshapes_S2048x128_S1024x2x128.1 reshapes_S2048x128_S1024x2x128.2 harg10.contiguous).view.loc (c : Thread nD τ) ↦[(arg10.reshape S1024x2x128 reshapes_S2048x128_S1024x2x128.1 reshapes_S2048x128_S1024x2x128.2 harg10.contiguous).view.set]{fullShare} f10) ∗ ((arg11.reshape S1024x2x128 reshapes_S2048x128_S1024x2x128.1 reshapes_S2048x128_S1024x2x128.2 harg11.contiguous).view.loc (c : Thread nD τ) ↦[(arg11.reshape S1024x2x128 reshapes_S2048x128_S1024x2x128.1 reshapes_S2048x128_S1024x2x128.2 harg11.contiguous).view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g, ((arg9.reshape S2048x2x128 reshapes_S4096x128_S2048x2x128.1 reshapes_S4096x128_S2048x2x128.2 harg9.contiguous).view.loc (c : Thread nD τ) ↦[(arg9.reshape S2048x2x128 reshapes_S4096x128_S2048x2x128.1 reshapes_S4096x128_S2048x2x128.2 harg9.contiguous).view.set]{fullShare} g)) ∗ (∃ g, ((arg10.reshape S1024x2x128 reshapes_S2048x128_S1024x2x128.1 reshapes_S2048x128_S1024x2x128.2 harg10.contiguous).view.loc (c : Thread nD τ) ↦[(arg10.reshape S1024x2x128 reshapes_S2048x128_S1024x2x128.1 reshapes_S2048x128_S1024x2x128.2 harg10.contiguous).view.set]{fullShare} g)) ∗ (∃ g, ((arg11.reshape S1024x2x128 reshapes_S2048x128_S1024x2x128.1 reshapes_S2048x128_S1024x2x128.2 harg11.contiguous).view.loc (c : Thread nD τ) ↦[(arg11.reshape S1024x2x128 reshapes_S2048x128_S1024x2x128.1 reshapes_S2048x128_S1024x2x128.2 harg11.contiguous).view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g))) -∗ K ⟨⟩))
      ⊢ wp frame (wpE (defs₀ (F := F)) Variants.none (c : Thread nD τ) none) Set.univ (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_rmsnorm_fp8_qkv_rope_eq_skeleton]; unfold cc0_rmsnorm_fp8_qkv_rope_skel
  iintro ⟨H1, H2, H3, H4, H5, H6, H7, H8, H9, H10, H11, H12, H13, H14, H15, H16, H17, Hk⟩
  by_cases hc : k0_cond1 i = 1#1
  all_goals
    sl_exec (disch := sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

/-- `kernelRun` with the buffers held as the pipeline holds them. -/
theorem kernelRun' (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (x1 : S256x4608.Idx → Elt F .bf16) (x2 : S256x4608.Idx → Elt F .bf16) (x3 : S256x1.Idx → Elt F .i32) (x4 : S256x1.Idx → Elt F .i32) (x5 : S1x4608.Idx → Elt F .f32) (x6 : S1x128.Idx → Elt F .f32) (x7 : S4608x4096.Idx → Elt F .fp8e4m3) (x8 : S1x4096.Idx → Elt F .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) Set.univ (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have e9 : (arg9.reshape S2048x2x128 reshapes_S4096x128_S2048x2x128.1 reshapes_S4096x128_S2048x2x128.2 harg9.contiguous).view.set = arg9.view.set := View.set_reshape _ _
  have e10 : (arg10.reshape S1024x2x128 reshapes_S2048x128_S1024x2x128.1 reshapes_S2048x128_S1024x2x128.2 harg10.contiguous).view.set = arg10.view.set := View.set_reshape _ _
  have e11 : (arg11.reshape S1024x2x128 reshapes_S2048x128_S1024x2x128.1 reshapes_S2048x128_S1024x2x128.2 harg11.contiguous).view.set = arg11.view.set := View.set_reshape _ _
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  iapply (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 K)
  rw [e9, e10, e11]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩⟩
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

variable (m : (ℓ : Loc nD τ sig) → Buf (Elt F) ℓ) (ρ : Dev nD → PrngReg)

/-! ## The proof data and the body obligation -/

/-- Window 0's staging memref at point `t`, as the pipeline passes it, and that it is whole. -/
abbrev ms0_0 (t : Fin cfg0.N) : Memref sig .tc .vmem S256x4608 .bf16 := win0_0.stage (cfg0.slots t 0)
abbrev hs0_0 (t : Fin cfg0.N) : (ms0_0 t).IsWhole := hstage0_0 ((cfg0.slots t 0).cast nbuf0_0)
/-- Window 1's staging memref at point `t`, as the pipeline passes it, and that it is whole. -/
abbrev ms0_1 (t : Fin cfg0.N) : Memref sig .tc .vmem S256x4608 .bf16 := win0_1.stage (cfg0.slots t 1)
abbrev hs0_1 (t : Fin cfg0.N) : (ms0_1 t).IsWhole := hstage0_1 ((cfg0.slots t 1).cast nbuf0_1)
/-- Window 2's staging memref at point `t`, as the pipeline passes it, and that it is whole. -/
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
/-- Window 3's staging memref at point `t`, as the pipeline passes it, and that it is whole. -/
abbrev ms0_3 (t : Fin cfg0.N) : Memref sig .tc .vmem S256x1 .i32 := win0_3.stage (cfg0.slots t 3)
abbrev hs0_3 (t : Fin cfg0.N) : (ms0_3 t).IsWhole := hstage0_3 ((cfg0.slots t 3).cast nbuf0_3)
/-- Window 4's staging memref at point `t`, as the pipeline passes it, and that it is whole. -/
abbrev ms0_4 (t : Fin cfg0.N) : Memref sig .tc .vmem S1x4608 .f32 := win0_4.stage (cfg0.slots t 4)
abbrev hs0_4 (t : Fin cfg0.N) : (ms0_4 t).IsWhole := hstage0_4 ((cfg0.slots t 4).cast nbuf0_4)
/-- Window 5's staging memref at point `t`, as the pipeline passes it, and that it is whole. -/
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- Window 6's staging memref at point `t`, as the pipeline passes it, and that it is whole. -/
abbrev ms0_6 (t : Fin cfg0.N) : Memref sig .tc .vmem S4608x4096 .fp8e4m3 := win0_6.stage (cfg0.slots t 6)
abbrev hs0_6 (t : Fin cfg0.N) : (ms0_6 t).IsWhole := hstage0_6 ((cfg0.slots t 6).cast nbuf0_6)
/-- Window 7's staging memref at point `t`, as the pipeline passes it, and that it is whole. -/
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
/-- Window 8's staging memref at point `t`, as the pipeline passes it, and that it is whole. -/
abbrev ms0_8 (t : Fin cfg0.N) : Memref sig .tc .vmem S4096x128 .bf16 := win0_8.stage (cfg0.slots t 8)
abbrev hs0_8 (t : Fin cfg0.N) : (ms0_8 t).IsWhole := hstage0_8 ((cfg0.slots t 8).cast nbuf0_8)
/-- Window 9's staging memref at point `t`, as the pipeline passes it, and that it is whole. -/
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
/-- Window 10's staging memref at point `t`, as the pipeline passes it, and that it is whole. -/
abbrev ms0_10 (t : Fin cfg0.N) : Memref sig .tc .vmem S2048x128 .bf16 := win0_10.stage (cfg0.slots t 10)
abbrev hs0_10 (t : Fin cfg0.N) : (ms0_10 t).IsWhole := hstage0_10 ((cfg0.slots t 10).cast nbuf0_10)
/-- Window 11's staging memref at point `t`, as the pipeline passes it, and that it is whole. -/
abbrev ms0_11 (t : Fin cfg0.N) : Memref sig .tc .vmem S256x4608 .fp8e4m3 := win0_11.stage (cfg0.slots t 11)
abbrev hs0_11 (t : Fin cfg0.N) : (ms0_11 t).IsWhole := hstage0_11 ((cfg0.slots t 11).cast nbuf0_11)
/-- Window 12's staging memref at point `t`, as the pipeline passes it, and that it is whole. -/
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)

/-- The five outputs are forgotten. -/
def forgets0 : Fin 13 → Bool := fun w => decide (8 ≤ w.val)

/-- The proof data on core `c`: each input leaves its block in place, each output is unnamed, the scratches are at anything. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t | 6 => iblk m c 6 t | 7 => iblk m c 7 t
    | 8 => Pipeline.Dat.unnamed (cfg := cfg0) 8 t | 9 => Pipeline.Dat.unnamed (cfg := cfg0) 9 t | 10 => Pipeline.Dat.unnamed (cfg := cfg0) 10 t | 11 => Pipeline.Dat.unnamed (cfg := cfg0) 11 t | 12 => Pipeline.Dat.unnamed (cfg := cfg0) 12 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d))
/-- What the body returns at point `t`. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d))

/-- The body at the point: the scratches opened, `kernelRun'`, the scratches closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨HS0, HS1, HS2, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  iapply (kernelRun' c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) _)
  rw [before0_0_of m (dats m 0 c) (A_eq m c 0) (fun _ => by dsimp only [dats]) t d0]
  rw [before0_1_of m (dats m 0 c) (A_eq m c 1) (fun _ => by dsimp only [dats]) t d1]
  rw [before0_2_of m (dats m 0 c) (A_eq m c 2) (fun _ => by dsimp only [dats]) t d2]
  rw [before0_3_of m (dats m 0 c) (A_eq m c 3) (fun _ => by dsimp only [dats]) t d3]
  rw [before0_4_of m (dats m 0 c) (A_eq m c 4) (fun _ => by dsimp only [dats]) t d4]
  rw [before0_5_of m (dats m 0 c) (A_eq m c 5) (fun _ => by dsimp only [dats]) t d5]
  rw [before0_6_of m (dats m 0 c) (A_eq m c 6) (fun _ => by dsimp only [dats]) t d6]
  rw [before0_7_of m (dats m 0 c) (A_eq m c 7) (fun _ => by dsimp only [dats]) t d7]
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, H12, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every run of the program ends, with every unscoped buffer that is no output at its launch contents and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: every run ends with the arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 6 rfl).trans (V_main_arg3 m c),
      ((h.1 c).2 main_arg4 (Pipeline.mem_restRefs_of main_arg4 (by decide) (by decide))).trans (V_main_arg4 m c)⟩, h.2⟩) (run_main m ρ)

end Cert.KernelIdeal.Hand

end
-- ==== Proof.Pieces.lean ====
/- Hand-written, untrusted. How a buffer filled by several stores reads back: the double-buffered scratch filled by eight 32-row
   pieces, and the strided outputs filled by eight or four interleaved tiles. -/
module

public import Idealize.ShloMosaic.Lib.Writes
public import Idealize.ShloMosaic.Lib.VecWindow
public import Idealize.ShloMosaic.Lib.Pointwise

@[expose] public section

set_option maxRecDepth 16384
set_option maxHeartbeats 4000000

noncomputable section

namespace Cert.Pieces

open Idealize.ShloMosaic

variable {sig : RefSig} {κ : Kind} {sp : Space} {e : EltTy} {Val : EltTy → Type} {α : Type} {N : ℕ}

/-- Two indices of a three-axis shape with equal coordinates are equal. -/
theorem idx3_ext {a b c : ℕ} {x y : (⟨3, ![a, b, c]⟩ : Shape).Idx} (h0 : (x 0).val = (y 0).val) (h1 : (x 1).val = (y 1).val)
    (h2 : (x 2).val = (y 2).val) : x = y :=
  funext fun i => Fin.ext (match i with | ⟨0, _⟩ => h0 | ⟨1, _⟩ => h1 | ⟨2, _⟩ => h2)

/-- Two indices of a two-axis shape with equal coordinates are equal. -/
theorem idx2_ext {a b : ℕ} {x y : (⟨2, ![a, b]⟩ : Shape).Idx} (h0 : (x 0).val = (y 0).val) (h1 : (x 1).val = (y 1).val) : x = y :=
  funext fun i => Fin.ext (match i with | ⟨0, _⟩ => h0 | ⟨1, _⟩ => h1)

/-- Rows `32 p` to `32 p + 31` of a 256-row block. -/
def rowsOf (X : (⟨2, ![256, N]⟩ : Shape).Idx → α) (p : Fin 8) : (⟨2, ![32, N]⟩ : Shape).Idx → α :=
  fun j => X (ix2 (⟨32 * p.val + (j 0).val, by have h := (j 0).isLt; change (j 0).val < 32 at h; omega⟩ : Fin 256) (j 1))

/-- Columns `256 n` to `256 n + 255` of the weight. -/
def wcols {R : ℕ} (X : (⟨2, ![R, 4096]⟩ : Shape).Idx → α) (n : Fin 16) : (⟨2, ![R, 256]⟩ : Shape).Idx → α :=
  fun j => X (ix2 (j 0) (⟨256 * n.val + (j 1).val, by have h := (j 1).isLt; change (j 1).val < 256 at h; omega⟩ : Fin 4096))

/-- Columns `128 n` to `128 n + 127` of the row of weight scales. -/
def scols {R : ℕ} (X : (⟨2, ![R, 4096]⟩ : Shape).Idx → α) (n : Fin 32) : (⟨2, ![R, 128]⟩ : Shape).Idx → α :=
  fun j => X (ix2 (j 0) (⟨128 * n.val + (j 1).val, by have h := (j 1).isLt; change (j 1).val < 128 at h; omega⟩ : Fin 4096))

/-- A 256-row slot (with its leading unit axis) whose rows come in eight pieces. -/
def slab (B : Fin 8 → (⟨3, ![1, 32, N]⟩ : Shape).Idx → α) : (⟨3, ![1, 256, N]⟩ : Shape).Idx → α :=
  fun y => B (⟨(y 1).val / 32, by have h := (y 1).isLt; change (y 1).val < 256 at h; omega⟩ : Fin 8)
    (ix3 (0 : Fin 1) (⟨(y 1).val % 32, Nat.mod_lt _ (by decide)⟩ : Fin 32) (y 2))

/-- Both slots holding the same eight pieces. -/
def slotG (B : Fin 8 → (⟨3, ![1, 32, N]⟩ : Shape).Idx → α) : (⟨3, ![2, 256, N]⟩ : Shape).Idx → α :=
  fun y => B (⟨(y 1).val / 32, by have h := (y 1).isLt; change (y 1).val < 256 at h; omega⟩ : Fin 8)
    (ix3 (0 : Fin 1) (⟨(y 1).val % 32, Nat.mod_lt _ (by decide)⟩ : Fin 32) (y 2))

/-- A load of 32 rows at row `32 p` reads piece `p`. -/
theorem load_rows (v : View sig κ sp ⟨2, ![256, N]⟩ e) (f : v.ty.Contents Val) (p : Fin 8) {o : Fin 2 → ℕ}
    (i : ∀ a, o a + (![32, N] : Fin 2 → ℕ) a ≤ (⟨2, ![256, N]⟩ : Shape).size a) (ho : o = ![32 * p.val, 0]) :
    v.readAt Val (Rect.unit o ![32, N] i).toLoadRect f = rowsOf (v.read Val f) p := by
  subst ho; funext x
  exact congrArg (v.read Val f) (idx2_ext (by show 32 * p.val + 1 * (x 0).val = 32 * p.val + (x 0).val; omega) (by show 0 + 1 * (x 1).val = (x 1).val; omega))

/-- A load of 256 columns at column `256 n`. -/
theorem load_wcols {R : ℕ} (v : View sig κ sp ⟨2, ![R, 4096]⟩ e) (f : v.ty.Contents Val) (n : Fin 16) {o : Fin 2 → ℕ}
    (i : ∀ a, o a + (![R, 256] : Fin 2 → ℕ) a ≤ (⟨2, ![R, 4096]⟩ : Shape).size a) (ho : o = ![0, 256 * n.val]) :
    v.readAt Val (Rect.unit o ![R, 256] i).toLoadRect f = wcols (v.read Val f) n := by
  subst ho; funext x
  exact congrArg (v.read Val f) (idx2_ext (by show 0 + 1 * (x 0).val = (x 0).val; omega) (by show 256 * n.val + 1 * (x 1).val = 256 * n.val + (x 1).val; omega))

/-- A load of 128 columns at column `128 n`. -/
theorem load_scols {R : ℕ} (v : View sig κ sp ⟨2, ![R, 4096]⟩ e) (f : v.ty.Contents Val) (n : Fin 32) {o : Fin 2 → ℕ}
    (i : ∀ a, o a + (![R, 128] : Fin 2 → ℕ) a ≤ (⟨2, ![R, 4096]⟩ : Shape).size a) (ho : o = ![0, 128 * n.val]) :
    v.readAt Val (Rect.unit o ![R, 128] i).toLoadRect f = scols (v.read Val f) n := by
  subst ho; funext x
  exact congrArg (v.read Val f) (idx2_ext (by show 0 + 1 * (x 0).val = (x 0).val; omega) (by show 128 * n.val + 1 * (x 1).val = 128 * n.val + (x 1).val; omega))

/-- A load of a whole slot that reads the pieces `B` is the slab of `B`. -/
theorem load_slab (v : View sig κ sp ⟨3, ![2, 256, N]⟩ e) (f : v.ty.Contents Val) (B : Fin 8 → (⟨3, ![1, 32, N]⟩ : Shape).Idx → Val e) (s : ℕ)
    {o : Fin 3 → ℕ} (i : ∀ a, o a + (![1, 256, N] : Fin 3 → ℕ) a ≤ (⟨3, ![2, 256, N]⟩ : Shape).size a) (ho : o = ![s, 0, 0])
    (h : ∀ y : (⟨3, ![2, 256, N]⟩ : Shape).Idx, (y 0).val = s → v.read Val f y = slotG B y) :
    v.readAt Val (Rect.unit o ![1, 256, N] i).toLoadRect f = slab B := by
  subst ho; funext x
  have hx : (x 0).val < 1 := (x 0).isLt
  refine (h _ (by show s + 1 * (x 0).val = s; omega)).trans ?_
  unfold slotG slab
  refine congrArg₂ B (Fin.ext ?_) (idx3_ext rfl ?_ ?_)
  · show (0 + 1 * (x 1).val) / 32 = (x 1).val / 32; omega
  · show (0 + 1 * (x 1).val) % 32 = (x 1).val % 32; omega
  · show 0 + 1 * (x 2).val = (x 2).val; omega

/-- Piece `p` of a slot, at its own index, is the slot at the index the piece is stored at. -/
theorem slotG_emb (B : Fin 8 → (⟨3, ![1, 32, N]⟩ : Shape).Idx → α) {s : ℕ} (o : Fin 3 → ℕ)
    (i : ∀ a, o a + (![1, 32, N] : Fin 3 → ℕ) a ≤ (⟨3, ![2, 256, N]⟩ : Shape).size a) {p : Fin 8} (ho : o = ![s, 32 * p.val, 0])
    (x : (⟨3, ![1, 32, N]⟩ : Shape).Idx) : slotG B ((Rect.unit (s := ⟨3, ![2, 256, N]⟩) o ![1, 32, N] i).emb x) = B p x := by
  subst ho
  have h0 : (x 0).val < 1 := (x 0).isLt
  have h1 : (x 1).val < 32 := (x 1).isLt
  unfold slotG
  refine congrArg₂ B (Fin.ext ?_) (idx3_ext ?_ ?_ ?_)
  · show (32 * p.val + 1 * (x 1).val) / 32 = p.val; omega
  · show 0 = (x 0).val; omega
  · show (32 * p.val + 1 * (x 1).val) % 32 = (x 1).val; omega
  · show 0 + 1 * (x 2).val = (x 2).val; omega

/-- An index of slot `s` whose row falls in piece `p` is one that piece is stored at. -/
theorem mem_slot {s : ℕ} (o : Fin 3 → ℕ) (i : ∀ a, o a + (![1, 32, N] : Fin 3 → ℕ) a ≤ (⟨3, ![2, 256, N]⟩ : Shape).size a) {p : ℕ}
    (ho : o = ![s, 32 * p, 0]) (y : (⟨3, ![2, 256, N]⟩ : Shape).Idx) (hy : (y 0).val = s) (h : (y 1).val / 32 = p) :
    y ∈ (Rect.unit o ![1, 32, N] i).set := by
  subst ho
  exact (LoadRect.mem_set _).mpr fun a => match a with
    | ⟨0, _⟩ => ⟨0, Nat.one_pos, by show (y 0).val = s + 1 * 0; omega⟩
    | ⟨1, _⟩ => ⟨(y 1).val % 32, Nat.mod_lt _ (by decide), by show (y 1).val = 32 * p + 1 * ((y 1).val % 32); omega⟩
    | ⟨2, _⟩ => ⟨(y 2).val, (y 2).isLt, by show (y 2).val = 0 + 1 * (y 2).val; omega⟩

/-- A scratch whose slot `s` was filled by eight pieces reads, in that slot, as the pieces. -/
theorem read_slot (v : View sig κ sp ⟨3, ![2, 256, N]⟩ e) (f : v.ty.Contents Val) (s : ℕ) (B : Fin 8 → (⟨3, ![1, 32, N]⟩ : Shape).Idx → Val e)
    {o0 : Fin 3 → ℕ} (i0 : ∀ a, o0 a + (![1, 32, N] : Fin 3 → ℕ) a ≤ (⟨3, ![2, 256, N]⟩ : Shape).size a) {o1 : Fin 3 → ℕ} (i1 : ∀ a, o1 a + (![1, 32, N] : Fin 3 → ℕ) a ≤ (⟨3, ![2, 256, N]⟩ : Shape).size a) {o2 : Fin 3 → ℕ} (i2 : ∀ a, o2 a + (![1, 32, N] : Fin 3 → ℕ) a ≤ (⟨3, ![2, 256, N]⟩ : Shape).size a) {o3 : Fin 3 → ℕ} (i3 : ∀ a, o3 a + (![1, 32, N] : Fin 3 → ℕ) a ≤ (⟨3, ![2, 256, N]⟩ : Shape).size a) {o4 : Fin 3 → ℕ} (i4 : ∀ a, o4 a + (![1, 32, N] : Fin 3 → ℕ) a ≤ (⟨3, ![2, 256, N]⟩ : Shape).size a) {o5 : Fin 3 → ℕ} (i5 : ∀ a, o5 a + (![1, 32, N] : Fin 3 → ℕ) a ≤ (⟨3, ![2, 256, N]⟩ : Shape).size a) {o6 : Fin 3 → ℕ} (i6 : ∀ a, o6 a + (![1, 32, N] : Fin 3 → ℕ) a ≤ (⟨3, ![2, 256, N]⟩ : Shape).size a) {o7 : Fin 3 → ℕ} (i7 : ∀ a, o7 a + (![1, 32, N] : Fin 3 → ℕ) a ≤ (⟨3, ![2, 256, N]⟩ : Shape).size a) (w0 : (⟨3, ![1, 32, N]⟩ : Shape).Idx → Val e) (w1 : (⟨3, ![1, 32, N]⟩ : Shape).Idx → Val e) (w2 : (⟨3, ![1, 32, N]⟩ : Shape).Idx → Val e) (w3 : (⟨3, ![1, 32, N]⟩ : Shape).Idx → Val e) (w4 : (⟨3, ![1, 32, N]⟩ : Shape).Idx → Val e) (w5 : (⟨3, ![1, 32, N]⟩ : Shape).Idx → Val e) (w6 : (⟨3, ![1, 32, N]⟩ : Shape).Idx → Val e) (w7 : (⟨3, ![1, 32, N]⟩ : Shape).Idx → Val e) (ho0 : o0 = ![s, 0, 0]) (ho1 : o1 = ![s, 32, 0]) (ho2 : o2 = ![s, 64, 0]) (ho3 : o3 = ![s, 96, 0]) (ho4 : o4 = ![s, 128, 0]) (ho5 : o5 = ![s, 160, 0]) (ho6 : o6 = ![s, 192, 0]) (ho7 : o7 = ![s, 224, 0]) (hw0 : w0 = B 0) (hw1 : w1 = B 1) (hw2 : w2 = B 2) (hw3 : w3 = B 3) (hw4 : w4 = B 4) (hw5 : w5 = B 5) (hw6 : w6 = B 6) (hw7 : w7 = B 7)
    (y : (⟨3, ![2, 256, N]⟩ : Shape).Idx) (hy : (y 0).val = s) :
    v.read Val (v.writes Val f [⟨Rect.unit o7 ![1, 32, N] i7, w7⟩, ⟨Rect.unit o6 ![1, 32, N] i6, w6⟩, ⟨Rect.unit o5 ![1, 32, N] i5, w5⟩, ⟨Rect.unit o4 ![1, 32, N] i4, w4⟩, ⟨Rect.unit o3 ![1, 32, N] i3, w3⟩, ⟨Rect.unit o2 ![1, 32, N] i2, w2⟩, ⟨Rect.unit o1 ![1, 32, N] i1, w1⟩, ⟨Rect.unit o0 ![1, 32, N] i0, w0⟩]) y = slotG B y := by
  apply View.read_writes_apply_of_pieces v f (slotG B)
  · intro p hp x
    simp only [List.mem_cons, List.not_mem_nil, or_false] at hp
    rcases hp with rfl | rfl | rfl | rfl | rfl | rfl | rfl | rfl
    · exact (congrFun hw7 x).trans (slotG_emb B o7 i7 (p := 7) ho7 x).symm
    · exact (congrFun hw6 x).trans (slotG_emb B o6 i6 (p := 6) ho6 x).symm
    · exact (congrFun hw5 x).trans (slotG_emb B o5 i5 (p := 5) ho5 x).symm
    · exact (congrFun hw4 x).trans (slotG_emb B o4 i4 (p := 4) ho4 x).symm
    · exact (congrFun hw3 x).trans (slotG_emb B o3 i3 (p := 3) ho3 x).symm
    · exact (congrFun hw2 x).trans (slotG_emb B o2 i2 (p := 2) ho2 x).symm
    · exact (congrFun hw1 x).trans (slotG_emb B o1 i1 (p := 1) ho1 x).symm
    · exact (congrFun hw0 x).trans (slotG_emb B o0 i0 (p := 0) ho0 x).symm
  · have hy1 := (y 1).isLt
    change (y 1).val < 256 at hy1
    have : (y 1).val / 32 = 0 ∨ (y 1).val / 32 = 1 ∨ (y 1).val / 32 = 2 ∨ (y 1).val / 32 = 3 ∨ (y 1).val / 32 = 4 ∨ (y 1).val / 32 = 5 ∨ (y 1).val / 32 = 6 ∨ (y 1).val / 32 = 7 := by omega
    rcases this with h | h | h | h | h | h | h | h
    · exact ⟨_, .tail _ (.tail _ (.tail _ (.tail _ (.tail _ (.tail _ (.tail _ (.head _))))))), mem_slot o0 i0 ho0 y hy (p := 0) h⟩
    · exact ⟨_, .tail _ (.tail _ (.tail _ (.tail _ (.tail _ (.tail _ (.head _)))))), mem_slot o1 i1 ho1 y hy (p := 1) h⟩
    · exact ⟨_, .tail _ (.tail _ (.tail _ (.tail _ (.tail _ (.head _))))), mem_slot o2 i2 ho2 y hy (p := 2) h⟩
    · exact ⟨_, .tail _ (.tail _ (.tail _ (.tail _ (.head _)))), mem_slot o3 i3 ho3 y hy (p := 3) h⟩
    · exact ⟨_, .tail _ (.tail _ (.tail _ (.head _))), mem_slot o4 i4 ho4 y hy (p := 4) h⟩
    · exact ⟨_, .tail _ (.tail _ (.head _)), mem_slot o5 i5 ho5 y hy (p := 5) h⟩
    · exact ⟨_, .tail _ (.head _), mem_slot o6 i6 ho6 y hy (p := 6) h⟩
    · exact ⟨_, .head _, mem_slot o7 i7 ho7 y hy (p := 7) h⟩

/-- Eight tiles of two heads, interleaved row by row: row `8 t + n` is row `t` of tile `n`. -/
def octG (B : Fin 8 → (⟨3, ![256, 2, 128]⟩ : Shape).Idx → α) : (⟨3, ![2048, 2, 128]⟩ : Shape).Idx → α :=
  fun y => B ⟨(y 0).val % 8, Nat.mod_lt _ (by decide)⟩ (ix3 (⟨(y 0).val / 8, by have h := (y 0).isLt; change (y 0).val < 2048 at h; omega⟩ : Fin 256) (y 1) (y 2))

/-- A buffer holding 8 tiles, tile `n` stored at rows `n`, `n + 8`, …, reads as the interleaved tiles. -/
theorem read_oct (v : View sig κ sp ⟨3, ![2048, 2, 128]⟩ e) (f : v.ty.Contents Val) (B : Fin 8 → (⟨3, ![256, 2, 128]⟩ : Shape).Idx → Val e)
    (i0 : ∀ a, (⟨3, ![256, 2, 128]⟩ : Shape).size a = 0 ∨ (![0, 0, 0] : Fin 3 → ℕ) a + (![8, 1, 1] : Fin 3 → ℕ) a * ((![256, 2, 128] : Fin 3 → ℕ) a - 1) < (⟨3, ![2048, 2, 128]⟩ : Shape).size a) (j0 : ∀ a, 0 < (![8, 1, 1] : Fin 3 → ℕ) a) (i1 : ∀ a, (⟨3, ![256, 2, 128]⟩ : Shape).size a = 0 ∨ (![1, 0, 0] : Fin 3 → ℕ) a + (![8, 1, 1] : Fin 3 → ℕ) a * ((![256, 2, 128] : Fin 3 → ℕ) a - 1) < (⟨3, ![2048, 2, 128]⟩ : Shape).size a) (j1 : ∀ a, 0 < (![8, 1, 1] : Fin 3 → ℕ) a) (i2 : ∀ a, (⟨3, ![256, 2, 128]⟩ : Shape).size a = 0 ∨ (![2, 0, 0] : Fin 3 → ℕ) a + (![8, 1, 1] : Fin 3 → ℕ) a * ((![256, 2, 128] : Fin 3 → ℕ) a - 1) < (⟨3, ![2048, 2, 128]⟩ : Shape).size a) (j2 : ∀ a, 0 < (![8, 1, 1] : Fin 3 → ℕ) a) (i3 : ∀ a, (⟨3, ![256, 2, 128]⟩ : Shape).size a = 0 ∨ (![3, 0, 0] : Fin 3 → ℕ) a + (![8, 1, 1] : Fin 3 → ℕ) a * ((![256, 2, 128] : Fin 3 → ℕ) a - 1) < (⟨3, ![2048, 2, 128]⟩ : Shape).size a) (j3 : ∀ a, 0 < (![8, 1, 1] : Fin 3 → ℕ) a) (i4 : ∀ a, (⟨3, ![256, 2, 128]⟩ : Shape).size a = 0 ∨ (![4, 0, 0] : Fin 3 → ℕ) a + (![8, 1, 1] : Fin 3 → ℕ) a * ((![256, 2, 128] : Fin 3 → ℕ) a - 1) < (⟨3, ![2048, 2, 128]⟩ : Shape).size a) (j4 : ∀ a, 0 < (![8, 1, 1] : Fin 3 → ℕ) a) (i5 : ∀ a, (⟨3, ![256, 2, 128]⟩ : Shape).size a = 0 ∨ (![5, 0, 0] : Fin 3 → ℕ) a + (![8, 1, 1] : Fin 3 → ℕ) a * ((![256, 2, 128] : Fin 3 → ℕ) a - 1) < (⟨3, ![2048, 2, 128]⟩ : Shape).size a) (j5 : ∀ a, 0 < (![8, 1, 1] : Fin 3 → ℕ) a) (i6 : ∀ a, (⟨3, ![256, 2, 128]⟩ : Shape).size a = 0 ∨ (![6, 0, 0] : Fin 3 → ℕ) a + (![8, 1, 1] : Fin 3 → ℕ) a * ((![256, 2, 128] : Fin 3 → ℕ) a - 1) < (⟨3, ![2048, 2, 128]⟩ : Shape).size a) (j6 : ∀ a, 0 < (![8, 1, 1] : Fin 3 → ℕ) a) (i7 : ∀ a, (⟨3, ![256, 2, 128]⟩ : Shape).size a = 0 ∨ (![7, 0, 0] : Fin 3 → ℕ) a + (![8, 1, 1] : Fin 3 → ℕ) a * ((![256, 2, 128] : Fin 3 → ℕ) a - 1) < (⟨3, ![2048, 2, 128]⟩ : Shape).size a) (j7 : ∀ a, 0 < (![8, 1, 1] : Fin 3 → ℕ) a) (w0 : (⟨3, ![256, 2, 128]⟩ : Shape).Idx → Val e) (w1 : (⟨3, ![256, 2, 128]⟩ : Shape).Idx → Val e) (w2 : (⟨3, ![256, 2, 128]⟩ : Shape).Idx → Val e) (w3 : (⟨3, ![256, 2, 128]⟩ : Shape).Idx → Val e) (w4 : (⟨3, ![256, 2, 128]⟩ : Shape).Idx → Val e) (w5 : (⟨3, ![256, 2, 128]⟩ : Shape).Idx → Val e) (w6 : (⟨3, ![256, 2, 128]⟩ : Shape).Idx → Val e) (w7 : (⟨3, ![256, 2, 128]⟩ : Shape).Idx → Val e) (hw0 : w0 = B 0) (hw1 : w1 = B 1) (hw2 : w2 = B 2) (hw3 : w3 = B 3) (hw4 : w4 = B 4) (hw5 : w5 = B 5) (hw6 : w6 = B 6) (hw7 : w7 = B 7) :
    v.read Val (v.writes Val f [⟨⟨⟨![7, 0, 0], ![256, 2, 128], ![8, 1, 1], i7⟩, j7⟩, w7⟩, ⟨⟨⟨![6, 0, 0], ![256, 2, 128], ![8, 1, 1], i6⟩, j6⟩, w6⟩, ⟨⟨⟨![5, 0, 0], ![256, 2, 128], ![8, 1, 1], i5⟩, j5⟩, w5⟩, ⟨⟨⟨![4, 0, 0], ![256, 2, 128], ![8, 1, 1], i4⟩, j4⟩, w4⟩, ⟨⟨⟨![3, 0, 0], ![256, 2, 128], ![8, 1, 1], i3⟩, j3⟩, w3⟩, ⟨⟨⟨![2, 0, 0], ![256, 2, 128], ![8, 1, 1], i2⟩, j2⟩, w2⟩, ⟨⟨⟨![1, 0, 0], ![256, 2, 128], ![8, 1, 1], i1⟩, j1⟩, w1⟩, ⟨⟨⟨![0, 0, 0], ![256, 2, 128], ![8, 1, 1], i0⟩, j0⟩, w0⟩]) = octG B := by
  funext y
  apply View.read_writes_apply_of_pieces v f (octG B)
  · intro p hp x
    simp only [List.mem_cons, List.not_mem_nil, or_false] at hp
    rcases hp with rfl | rfl | rfl | rfl | rfl | rfl | rfl | rfl
    · exact (congrFun hw7 x).trans (congrArg₂ B (Fin.ext (by show 7 = (7 + 8 * (x 0).val) % 8; omega)) (idx3_ext (by show (x 0).val = (7 + 8 * (x 0).val) / 8; omega) (by show (x 1).val = 0 + 1 * (x 1).val; omega) (by show (x 2).val = 0 + 1 * (x 2).val; omega)))
    · exact (congrFun hw6 x).trans (congrArg₂ B (Fin.ext (by show 6 = (6 + 8 * (x 0).val) % 8; omega)) (idx3_ext (by show (x 0).val = (6 + 8 * (x 0).val) / 8; omega) (by show (x 1).val = 0 + 1 * (x 1).val; omega) (by show (x 2).val = 0 + 1 * (x 2).val; omega)))
    · exact (congrFun hw5 x).trans (congrArg₂ B (Fin.ext (by show 5 = (5 + 8 * (x 0).val) % 8; omega)) (idx3_ext (by show (x 0).val = (5 + 8 * (x 0).val) / 8; omega) (by show (x 1).val = 0 + 1 * (x 1).val; omega) (by show (x 2).val = 0 + 1 * (x 2).val; omega)))
    · exact (congrFun hw4 x).trans (congrArg₂ B (Fin.ext (by show 4 = (4 + 8 * (x 0).val) % 8; omega)) (idx3_ext (by show (x 0).val = (4 + 8 * (x 0).val) / 8; omega) (by show (x 1).val = 0 + 1 * (x 1).val; omega) (by show (x 2).val = 0 + 1 * (x 2).val; omega)))
    · exact (congrFun hw3 x).trans (congrArg₂ B (Fin.ext (by show 3 = (3 + 8 * (x 0).val) % 8; omega)) (idx3_ext (by show (x 0).val = (3 + 8 * (x 0).val) / 8; omega) (by show (x 1).val = 0 + 1 * (x 1).val; omega) (by show (x 2).val = 0 + 1 * (x 2).val; omega)))
    · exact (congrFun hw2 x).trans (congrArg₂ B (Fin.ext (by show 2 = (2 + 8 * (x 0).val) % 8; omega)) (idx3_ext (by show (x 0).val = (2 + 8 * (x 0).val) / 8; omega) (by show (x 1).val = 0 + 1 * (x 1).val; omega) (by show (x 2).val = 0 + 1 * (x 2).val; omega)))
    · exact (congrFun hw1 x).trans (congrArg₂ B (Fin.ext (by show 1 = (1 + 8 * (x 0).val) % 8; omega)) (idx3_ext (by show (x 0).val = (1 + 8 * (x 0).val) / 8; omega) (by show (x 1).val = 0 + 1 * (x 1).val; omega) (by show (x 2).val = 0 + 1 * (x 2).val; omega)))
    · exact (congrFun hw0 x).trans (congrArg₂ B (Fin.ext (by show 0 = (0 + 8 * (x 0).val) % 8; omega)) (idx3_ext (by show (x 0).val = (0 + 8 * (x 0).val) / 8; omega) (by show (x 1).val = 0 + 1 * (x 1).val; omega) (by show (x 2).val = 0 + 1 * (x 2).val; omega)))
  · have hy := (y 0).isLt
    change (y 0).val < 2048 at hy
    have : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases this with h | h | h | h | h | h | h | h
    · exact ⟨_, .tail _ (.tail _ (.tail _ (.tail _ (.tail _ (.tail _ (.tail _ (.head _))))))), (LoadRect.mem_set _).mpr fun a => match a with | ⟨0, _⟩ => ⟨(y 0).val / 8, by show _ < 256; omega, by show (y 0).val = 0 + 8 * ((y 0).val / 8); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .tail _ (.tail _ (.tail _ (.tail _ (.tail _ (.tail _ (.head _)))))), (LoadRect.mem_set _).mpr fun a => match a with | ⟨0, _⟩ => ⟨(y 0).val / 8, by show _ < 256; omega, by show (y 0).val = 1 + 8 * ((y 0).val / 8); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .tail _ (.tail _ (.tail _ (.tail _ (.tail _ (.head _))))), (LoadRect.mem_set _).mpr fun a => match a with | ⟨0, _⟩ => ⟨(y 0).val / 8, by show _ < 256; omega, by show (y 0).val = 2 + 8 * ((y 0).val / 8); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .tail _ (.tail _ (.tail _ (.tail _ (.head _)))), (LoadRect.mem_set _).mpr fun a => match a with | ⟨0, _⟩ => ⟨(y 0).val / 8, by show _ < 256; omega, by show (y 0).val = 3 + 8 * ((y 0).val / 8); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .tail _ (.tail _ (.tail _ (.head _))), (LoadRect.mem_set _).mpr fun a => match a with | ⟨0, _⟩ => ⟨(y 0).val / 8, by show _ < 256; omega, by show (y 0).val = 4 + 8 * ((y 0).val / 8); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .tail _ (.tail _ (.head _)), (LoadRect.mem_set _).mpr fun a => match a with | ⟨0, _⟩ => ⟨(y 0).val / 8, by show _ < 256; omega, by show (y 0).val = 5 + 8 * ((y 0).val / 8); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .tail _ (.head _), (LoadRect.mem_set _).mpr fun a => match a with | ⟨0, _⟩ => ⟨(y 0).val / 8, by show _ < 256; omega, by show (y 0).val = 6 + 8 * ((y 0).val / 8); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .head _, (LoadRect.mem_set _).mpr fun a => match a with | ⟨0, _⟩ => ⟨(y 0).val / 8, by show _ < 256; omega, by show (y 0).val = 7 + 8 * ((y 0).val / 8); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩

/-- Four tiles of two heads, interleaved row by row: row `4 t + n` is row `t` of tile `n`. -/
def quadG (B : Fin 4 → (⟨3, ![256, 2, 128]⟩ : Shape).Idx → α) : (⟨3, ![1024, 2, 128]⟩ : Shape).Idx → α :=
  fun y => B ⟨(y 0).val % 4, Nat.mod_lt _ (by decide)⟩ (ix3 (⟨(y 0).val / 4, by have h := (y 0).isLt; change (y 0).val < 1024 at h; omega⟩ : Fin 256) (y 1) (y 2))

/-- A buffer holding 4 tiles, tile `n` stored at rows `n`, `n + 4`, …, reads as the interleaved tiles. -/
theorem read_quad (v : View sig κ sp ⟨3, ![1024, 2, 128]⟩ e) (f : v.ty.Contents Val) (B : Fin 4 → (⟨3, ![256, 2, 128]⟩ : Shape).Idx → Val e)
    (i0 : ∀ a, (⟨3, ![256, 2, 128]⟩ : Shape).size a = 0 ∨ (![0, 0, 0] : Fin 3 → ℕ) a + (![4, 1, 1] : Fin 3 → ℕ) a * ((![256, 2, 128] : Fin 3 → ℕ) a - 1) < (⟨3, ![1024, 2, 128]⟩ : Shape).size a) (j0 : ∀ a, 0 < (![4, 1, 1] : Fin 3 → ℕ) a) (i1 : ∀ a, (⟨3, ![256, 2, 128]⟩ : Shape).size a = 0 ∨ (![1, 0, 0] : Fin 3 → ℕ) a + (![4, 1, 1] : Fin 3 → ℕ) a * ((![256, 2, 128] : Fin 3 → ℕ) a - 1) < (⟨3, ![1024, 2, 128]⟩ : Shape).size a) (j1 : ∀ a, 0 < (![4, 1, 1] : Fin 3 → ℕ) a) (i2 : ∀ a, (⟨3, ![256, 2, 128]⟩ : Shape).size a = 0 ∨ (![2, 0, 0] : Fin 3 → ℕ) a + (![4, 1, 1] : Fin 3 → ℕ) a * ((![256, 2, 128] : Fin 3 → ℕ) a - 1) < (⟨3, ![1024, 2, 128]⟩ : Shape).size a) (j2 : ∀ a, 0 < (![4, 1, 1] : Fin 3 → ℕ) a) (i3 : ∀ a, (⟨3, ![256, 2, 128]⟩ : Shape).size a = 0 ∨ (![3, 0, 0] : Fin 3 → ℕ) a + (![4, 1, 1] : Fin 3 → ℕ) a * ((![256, 2, 128] : Fin 3 → ℕ) a - 1) < (⟨3, ![1024, 2, 128]⟩ : Shape).size a) (j3 : ∀ a, 0 < (![4, 1, 1] : Fin 3 → ℕ) a) (w0 : (⟨3, ![256, 2, 128]⟩ : Shape).Idx → Val e) (w1 : (⟨3, ![256, 2, 128]⟩ : Shape).Idx → Val e) (w2 : (⟨3, ![256, 2, 128]⟩ : Shape).Idx → Val e) (w3 : (⟨3, ![256, 2, 128]⟩ : Shape).Idx → Val e) (hw0 : w0 = B 0) (hw1 : w1 = B 1) (hw2 : w2 = B 2) (hw3 : w3 = B 3) :
    v.read Val (v.writes Val f [⟨⟨⟨![3, 0, 0], ![256, 2, 128], ![4, 1, 1], i3⟩, j3⟩, w3⟩, ⟨⟨⟨![2, 0, 0], ![256, 2, 128], ![4, 1, 1], i2⟩, j2⟩, w2⟩, ⟨⟨⟨![1, 0, 0], ![256, 2, 128], ![4, 1, 1], i1⟩, j1⟩, w1⟩, ⟨⟨⟨![0, 0, 0], ![256, 2, 128], ![4, 1, 1], i0⟩, j0⟩, w0⟩]) = quadG B := by
  funext y
  apply View.read_writes_apply_of_pieces v f (quadG B)
  · intro p hp x
    simp only [List.mem_cons, List.not_mem_nil, or_false] at hp
    rcases hp with rfl | rfl | rfl | rfl
    · exact (congrFun hw3 x).trans (congrArg₂ B (Fin.ext (by show 3 = (3 + 4 * (x 0).val) % 4; omega)) (idx3_ext (by show (x 0).val = (3 + 4 * (x 0).val) / 4; omega) (by show (x 1).val = 0 + 1 * (x 1).val; omega) (by show (x 2).val = 0 + 1 * (x 2).val; omega)))
    · exact (congrFun hw2 x).trans (congrArg₂ B (Fin.ext (by show 2 = (2 + 4 * (x 0).val) % 4; omega)) (idx3_ext (by show (x 0).val = (2 + 4 * (x 0).val) / 4; omega) (by show (x 1).val = 0 + 1 * (x 1).val; omega) (by show (x 2).val = 0 + 1 * (x 2).val; omega)))
    · exact (congrFun hw1 x).trans (congrArg₂ B (Fin.ext (by show 1 = (1 + 4 * (x 0).val) % 4; omega)) (idx3_ext (by show (x 0).val = (1 + 4 * (x 0).val) / 4; omega) (by show (x 1).val = 0 + 1 * (x 1).val; omega) (by show (x 2).val = 0 + 1 * (x 2).val; omega)))
    · exact (congrFun hw0 x).trans (congrArg₂ B (Fin.ext (by show 0 = (0 + 4 * (x 0).val) % 4; omega)) (idx3_ext (by show (x 0).val = (0 + 4 * (x 0).val) / 4; omega) (by show (x 1).val = 0 + 1 * (x 1).val; omega) (by show (x 2).val = 0 + 1 * (x 2).val; omega)))
  · have hy := (y 0).isLt
    change (y 0).val < 1024 at hy
    have : (y 0).val % 4 = 0 ∨ (y 0).val % 4 = 1 ∨ (y 0).val % 4 = 2 ∨ (y 0).val % 4 = 3 := by omega
    rcases this with h | h | h | h
    · exact ⟨_, .tail _ (.tail _ (.tail _ (.head _))), (LoadRect.mem_set _).mpr fun a => match a with | ⟨0, _⟩ => ⟨(y 0).val / 4, by show _ < 256; omega, by show (y 0).val = 0 + 4 * ((y 0).val / 4); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .tail _ (.tail _ (.head _)), (LoadRect.mem_set _).mpr fun a => match a with | ⟨0, _⟩ => ⟨(y 0).val / 4, by show _ < 256; omega, by show (y 0).val = 1 + 4 * ((y 0).val / 4); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .tail _ (.head _), (LoadRect.mem_set _).mpr fun a => match a with | ⟨0, _⟩ => ⟨(y 0).val / 4, by show _ < 256; omega, by show (y 0).val = 2 + 4 * ((y 0).val / 4); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩
    · exact ⟨_, .head _, (LoadRect.mem_set _).mpr fun a => match a with | ⟨0, _⟩ => ⟨(y 0).val / 4, by show _ < 256; omega, by show (y 0).val = 3 + 4 * ((y 0).val / 4); omega⟩ | ⟨1, _⟩ => ⟨(y 1).val, (y 1).isLt, by show (y 1).val = 0 + 1 * (y 1).val; omega⟩ | ⟨2, _⟩ => ⟨(y 2).val, (y 2).isLt, by show (y 2).val = 0 + 1 * (y 2).val; omega⟩⟩

/-- A buffer stored whole reads back what was stored. -/
theorem read_whole {a b : ℕ} (v : View sig κ sp ⟨2, ![a, b]⟩ e) (f : v.ty.Contents Val)
    (i : ∀ k, (![0, 0] : Fin 2 → ℕ) k + (![a, b] : Fin 2 → ℕ) k ≤ (⟨2, ![a, b]⟩ : Shape).size k) (w : (⟨2, ![a, b]⟩ : Shape).Idx → Val e) :
    v.read Val (v.writes Val f [⟨Rect.unit ![0, 0] ![a, b] i, w⟩]) = w := by
  funext y
  exact View.read_writes_cons_hit v f (Rect.unit (s := ⟨2, ![a, b]⟩) ![0, 0] ![a, b] i) w [] y y
    (idx2_ext (by show 0 + 1 * (y 0).val = (y 0).val; omega) (by show 0 + 1 * (y 1).val = (y 1).val; omega))

/-- Pairs of rows of 128 lanes, as one matrix of rows: row `r` is element `r % 2` of pair `r / 2`. -/
def unflat {M R : ℕ} (hR : M = 2 * R) {α : Type} (T : (⟨3, ![R, 2, 128]⟩ : Shape).Idx → α) (y : (⟨2, ![M, 128]⟩ : Shape).Idx) : α :=
  T (ix3 ⟨(y 0).val / 2, by have h : (y 0).val < M := (y 0).isLt; omega⟩ ⟨(y 0).val % 2, by omega⟩ (y 1))

/-- What a view of rows reads, from what its reshape to pairs of rows reads. -/
theorem read_reshape {M R : ℕ} (hR : M = 2 * R) (v : View sig κ sp ⟨2, ![M, 128]⟩ e) (h : (⟨3, ![R, 2, 128]⟩ : Shape).numel = (⟨2, ![M, 128]⟩ : Shape).numel)
    (g : v.ty.Contents Val) {T : (⟨3, ![R, 2, 128]⟩ : Shape).Idx → Val e} (hT : (v.reshape ⟨3, ![R, 2, 128]⟩ h).read Val g = T) :
    v.read Val g = unflat hR T := by
  subst hT; funext y
  have hy : Shape.reshapeEquiv h (ix3 ⟨(y 0).val / 2, by have h : (y 0).val < M := (y 0).isLt; omega⟩ ⟨(y 0).val % 2, by omega⟩ (y 1)) = y :=
    Shape.reshapeEquiv_eq_of_vals h _ _ _ _ (rowMajor_val2 _ 128 rfl) (rowMajor_val3 _ 256 128 rfl rfl) (by
      show (y 0).val * 128 + (y 1).val = (y 0).val / 2 * 256 + (y 0).val % 2 * 128 + (y 1).val; omega)
  unfold unflat
  show v.read Val g y = v.read Val g (Shape.reshapeEquiv h (ix3 ⟨(y 0).val / 2, _⟩ ⟨(y 0).val % 2, _⟩ (y 1)))
  rw [hy]

/-- Block `t` of 256 rows. -/
def blkOf {N : ℕ} {α : Type} (X : (⟨2, ![8192, N]⟩ : Shape).Idx → α) (t : ℕ) (y : (⟨2, ![256, N]⟩ : Shape).Idx) : α :=
  X (ix2 ⟨(256 * t + (y 0).val) % 8192, by omega⟩ (y 1))

end Cert.Pieces

end
-- ==== Proof.Tiles.lean ====
/- Hand-written, untrusted. What the kernel's body computes, as functions of its blocks: the eight 32-row pieces of the quantized
   block, of its scales and of the rotation, and the two-head tiles of the three projections. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.Pieces

@[expose] public section

set_option maxRecDepth 16384
set_option maxHeartbeats 4000000

noncomputable section

namespace Cert.KernelIdeal.Val

open Cert.KernelIdeal Cert.KernelIdeal.Gen Cert.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The codes of rows `32 p` to `32 p + 31`. -/
def codesB (X : FVec F S256x4608 .bf16) (G : FVec F S1x4608 .f32) (p : Fin 8) : FVec F S1x32x4608 .fp8e4m3 :=
  k0_pay5 (Scalar.ofBits .f32 0x43E00000#32) (k0_pay4 (rowsOf X p) G)

/-- Their scales, one per row, in every lane. -/
def scaleB (X : FVec F S256x4608 .bf16) (G : FVec F S1x4608 .f32) (p : Fin 8) : FVec F S1x32x128 .f32 := k0_pay6 (k0_pay3 (rowsOf X p) G)

/-- The cosines of the same rows' angles. -/
def cosB (T : IVec S256x1 32) (V : FVec F S1x128 .f32) (p : Fin 8) : FVec F S1x32x128 .f32 := k0_pay8 (rowsOf T p) V

/-- Their sines, negated in the lower 64 lanes. -/
def sinB (T : IVec S256x1 32) (V : FVec F S1x128 .f32) (p : Fin 8) : FVec F S1x32x128 .f32 := k0_pay9 (rowsOf T p) V

/-- Tile `n` of the rotated projections: two heads of 256 tokens. -/
def qTile (Bc : Fin 8 → FVec F S1x32x4608 .fp8e4m3) (Bs Bo Bi : Fin 8 → FVec F S1x32x128 .f32) (W : FVec F S4608x4096 .fp8e4m3)
    (S : FVec F S1x4096 .f32) (n : Fin 16) : FVec F S256x2x128 .bf16 :=
  k0_pay30 (k0_pay10 (slab Bc)) (k0_pay11 (slab Bs)) (k0_pay12 (slab Bo)) (k0_pay13 (slab Bi)) (wcols W n)
    (scols S ⟨2 * n.val, by omega⟩) (scols S ⟨2 * n.val + 1, by omega⟩)

/-- Tile `n` of the projection that is not rotated. -/
def vTile (Bc : Fin 8 → FVec F S1x32x4608 .fp8e4m3) (Bs : Fin 8 → FVec F S1x32x128 .f32) (W : FVec F S4608x4096 .fp8e4m3)
    (S : FVec F S1x4096 .f32) (n : Fin 16) : FVec F S256x2x128 .bf16 :=
  k0_pay134 (k0_pay10 (slab Bc)) (k0_pay11 (slab Bs)) (wcols W n) (scols S ⟨2 * n.val, by omega⟩) (scols S ⟨2 * n.val + 1, by omega⟩)

/-- The codes the body stores are `codesB`, when its two loads read rows of the block and the gain. -/
theorem codes_loads {X : FVec F S256x4608 .bf16} {G : FVec F S1x4608 .f32} {p : Fin 8} {x : Vec F S32x4608 .bf16} {g : Vec F S1x4608 .f32}
    (hx : x = rowsOf X p) (hg : g = G) : k0_pay5 (Scalar.ofBits .f32 0x43E00000#32) (k0_pay4 x g) = codesB X G p := by
  subst hx hg; rfl

/-- The scales the body stores are `scaleB`. -/
theorem scale_loads {X : FVec F S256x4608 .bf16} {G : FVec F S1x4608 .f32} {p : Fin 8} {x : Vec F S32x4608 .bf16} {g : Vec F S1x4608 .f32}
    (hx : x = rowsOf X p) (hg : g = G) : k0_pay6 (k0_pay3 x g) = scaleB X G p := by
  subst hx hg; rfl

/-- The cosines the body stores are `cosB`. -/
theorem cos_loads {T : IVec S256x1 32} {V : FVec F S1x128 .f32} {p : Fin 8} {x : Vec F S32x1 .i32} {g : Vec F S1x128 .f32}
    (hx : x = rowsOf T p) (hg : g = V) : k0_pay8 x g = cosB T V p := by
  subst hx hg; rfl

/-- The sines the body stores are `sinB`. -/
theorem sin_loads {T : IVec S256x1 32} {V : FVec F S1x128 .f32} {p : Fin 8} {x : Vec F S32x1 .i32} {g : Vec F S1x128 .f32}
    (hx : x = rowsOf T p) (hg : g = V) : k0_pay9 x g = sinB T V p := by
  subst hx hg; rfl

/-- The rotated tile the body stores is `qTile`, when its loads read the slabs, the weight's columns and their scales. -/
theorem qTile_loads {Bc : Fin 8 → FVec F S1x32x4608 .fp8e4m3} {Bs Bo Bi : Fin 8 → FVec F S1x32x128 .f32} {W : FVec F S4608x4096 .fp8e4m3}
    {S : FVec F S1x4096 .f32} (n : Fin 16) {l : Vec F S1x256x4608 .fp8e4m3} {a b d : Vec F S1x256x128 .f32} {w : Vec F S4608x256 .fp8e4m3}
    {s0 s1 : Vec F S1x128 .f32} (hl : l = slab Bc) (ha : a = slab Bs) (hb : b = slab Bo) (hd : d = slab Bi) (hw : w = wcols W n)
    (h0 : s0 = scols S ⟨2 * n.val, by omega⟩) (h1 : s1 = scols S ⟨2 * n.val + 1, by omega⟩) :
    k0_pay30 (k0_pay10 l) (k0_pay11 a) (k0_pay12 b) (k0_pay13 d) w s0 s1 = qTile Bc Bs Bo Bi W S n := by
  subst hl ha hb hd hw h0 h1; rfl

/-- The unrotated tile the body stores is `vTile`. -/
theorem vTile_loads {Bc : Fin 8 → FVec F S1x32x4608 .fp8e4m3} {Bs : Fin 8 → FVec F S1x32x128 .f32} {W : FVec F S4608x4096 .fp8e4m3}
    {S : FVec F S1x4096 .f32} (n : Fin 16) {l : Vec F S1x256x4608 .fp8e4m3} {a : Vec F S1x256x128 .f32} {w : Vec F S4608x256 .fp8e4m3}
    {s0 s1 : Vec F S1x128 .f32} (hl : l = slab Bc) (ha : a = slab Bs) (hw : w = wcols W n)
    (h0 : s0 = scols S ⟨2 * n.val, by omega⟩) (h1 : s1 = scols S ⟨2 * n.val + 1, by omega⟩) :
    k0_pay134 (k0_pay10 l) (k0_pay11 a) w s0 s1 = vTile Bc Bs W S n := by
  subst hl ha hw h0 h1; rfl

end Cert.KernelIdeal.Val

end
-- ==== Proof.BodyA.lean ====
/- Hand-written, untrusted. The body's run at the first grid point: what each output and each scratch holds afterwards. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.Pieces
public import proofs.«01_k».proof.Proof.Tiles

@[expose] public section

set_option maxRecDepth 16384
set_option maxHeartbeats 4000000

noncomputable section

namespace Cert.KernelIdeal.Val

open Cert.KernelIdeal Cert.KernelIdeal.Gen Cert.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces the first point's loop leaves in scratch 14: they agree with `codesB` of the first block and, after trip `k`, cover the rows
    below `32 k` of slot 0. -/
theorem loop_codes (c : Dev nD) (i : grid0.Coords) (hc : k0_cond1 i = 1#1) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (f1 : BufTy.Contents (Elt F) arg1.view.ty) (f3 : BufTy.Contents (Elt F) arg3.view.ty) (f5 : BufTy.Contents (Elt F) arg5.view.ty) (f6 : BufTy.Contents (Elt F) arg6.view.ty) : ∀ k : ℕ, k ≤ k0_t1_loop.trips →
    (∀ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).1, ∀ x : p.1.shape.Idx, p.2 x = slotG (codesB (arg1.view.read (Elt F) f1) (arg5.view.read (Elt F) f5)) (p.1.emb x)) ∧
    (∀ y : S2x256x4608.Idx, (y 0).val = 0 → (y 1).val < 32 * k → ∃ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).1, y ∈ p.1.set)
  | 0, _ => ⟨fun p hp => absurd hp List.not_mem_nil, fun y _ h => absurd h (Nat.not_lt_zero _)⟩
  | k + 1, hk => by
    have ih := loop_codes c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f3 f5 f6 k (by omega)
    have hk8 : k < 8 := Nat.lt_of_lt_of_le hk k0_t1_abs.2.1
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩
    have e1 : (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 (k + 1)).1 = (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩).1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).1 := by rw [e]
    obtain ⟨w, hw, ht⟩ : ∃ w, w = (codesB (arg1.view.read (Elt F) f1) (arg5.view.read (Elt F) f5)) ⟨k, hk8⟩ ∧ (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩).1 = [⟨Rect.unit (s := S2x256x4608) (k0_off2 ⟨k, hk⟩) S1x32x4608.size (k0_off2_inb i ⟨k, hk⟩ hc), w⟩] :=
      have hw := codes_loads (load_rows arg1.view f1 ⟨k, hk8⟩ (k0_off1_inb i ⟨k, hk⟩ hc) (k0_off1_eq ⟨k, hk⟩)) (View.readAt_full arg5.view f5 inb_S1x4608_S1x4608_0_0)
      ⟨_, hw, by unfold tripL_k0_t1 trip_k0_t1; exact rfl⟩
    rw [e1, ht]
    constructor
    · intro p hp x
      rcases List.mem_cons.mp hp with rfl | hp
      · exact (congrFun hw x).trans (slotG_emb _ _ (k0_off2_inb i ⟨k, hk⟩ hc) (p := ⟨k, hk8⟩) (k0_off2_eq ⟨k, hk⟩) x).symm
      · exact ih.1 p hp x
    · intro y hy h
      by_cases h' : (y 1).val < 32 * k
      · obtain ⟨p, hp, hm⟩ := ih.2 y hy h'
        exact ⟨p, List.mem_cons_of_mem _ hp, hm⟩
      · exact ⟨_, List.mem_cons_self, mem_slot _ (k0_off2_inb i ⟨k, hk⟩ hc) (p := k) (k0_off2_eq ⟨k, hk⟩) y hy (by show (y 1).val / 32 = k; omega)⟩

/-- The pieces the first point's loop leaves in scratch 15: they agree with `scaleB` of the first block and, after trip `k`, cover the rows
    below `32 k` of slot 0. -/
theorem loop_scale (c : Dev nD) (i : grid0.Coords) (hc : k0_cond1 i = 1#1) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (f1 : BufTy.Contents (Elt F) arg1.view.ty) (f3 : BufTy.Contents (Elt F) arg3.view.ty) (f5 : BufTy.Contents (Elt F) arg5.view.ty) (f6 : BufTy.Contents (Elt F) arg6.view.ty) : ∀ k : ℕ, k ≤ k0_t1_loop.trips →
    (∀ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.1, ∀ x : p.1.shape.Idx, p.2 x = slotG (scaleB (arg1.view.read (Elt F) f1) (arg5.view.read (Elt F) f5)) (p.1.emb x)) ∧
    (∀ y : S2x256x128.Idx, (y 0).val = 0 → (y 1).val < 32 * k → ∃ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.1, y ∈ p.1.set)
  | 0, _ => ⟨fun p hp => absurd hp List.not_mem_nil, fun y _ h => absurd h (Nat.not_lt_zero _)⟩
  | k + 1, hk => by
    have ih := loop_scale c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f3 f5 f6 k (by omega)
    have hk8 : k < 8 := Nat.lt_of_lt_of_le hk k0_t1_abs.2.1
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩
    have e1 : (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 (k + 1)).2.1 = (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩).2.1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.1 := by rw [e]
    obtain ⟨w, hw, ht⟩ : ∃ w, w = (scaleB (arg1.view.read (Elt F) f1) (arg5.view.read (Elt F) f5)) ⟨k, hk8⟩ ∧ (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩).2.1 = [⟨Rect.unit (s := S2x256x128) (k0_off3 ⟨k, hk⟩) S1x32x128.size (k0_off3_inb i ⟨k, hk⟩ hc), w⟩] :=
      have hw := scale_loads (load_rows arg1.view f1 ⟨k, hk8⟩ (k0_off1_inb i ⟨k, hk⟩ hc) (k0_off1_eq ⟨k, hk⟩)) (View.readAt_full arg5.view f5 inb_S1x4608_S1x4608_0_0)
      ⟨_, hw, by unfold tripL_k0_t1 trip_k0_t1; exact rfl⟩
    rw [e1, ht]
    constructor
    · intro p hp x
      rcases List.mem_cons.mp hp with rfl | hp
      · exact (congrFun hw x).trans (slotG_emb _ _ (k0_off3_inb i ⟨k, hk⟩ hc) (p := ⟨k, hk8⟩) (k0_off3_eq ⟨k, hk⟩) x).symm
      · exact ih.1 p hp x
    · intro y hy h
      by_cases h' : (y 1).val < 32 * k
      · obtain ⟨p, hp, hm⟩ := ih.2 y hy h'
        exact ⟨p, List.mem_cons_of_mem _ hp, hm⟩
      · exact ⟨_, List.mem_cons_self, mem_slot _ (k0_off3_inb i ⟨k, hk⟩ hc) (p := k) (k0_off3_eq ⟨k, hk⟩) y hy (by show (y 1).val / 32 = k; omega)⟩

/-- The pieces the first point's loop leaves in scratch 16: they agree with `cosB` of the first block and, after trip `k`, cover the rows
    below `32 k` of slot 0. -/
theorem loop_cos (c : Dev nD) (i : grid0.Coords) (hc : k0_cond1 i = 1#1) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (f1 : BufTy.Contents (Elt F) arg1.view.ty) (f3 : BufTy.Contents (Elt F) arg3.view.ty) (f5 : BufTy.Contents (Elt F) arg5.view.ty) (f6 : BufTy.Contents (Elt F) arg6.view.ty) : ∀ k : ℕ, k ≤ k0_t1_loop.trips →
    (∀ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.2.1, ∀ x : p.1.shape.Idx, p.2 x = slotG (cosB (arg3.view.read (Elt F) f3) (arg6.view.read (Elt F) f6)) (p.1.emb x)) ∧
    (∀ y : S2x256x128.Idx, (y 0).val = 0 → (y 1).val < 32 * k → ∃ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.2.1, y ∈ p.1.set)
  | 0, _ => ⟨fun p hp => absurd hp List.not_mem_nil, fun y _ h => absurd h (Nat.not_lt_zero _)⟩
  | k + 1, hk => by
    have ih := loop_cos c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f3 f5 f6 k (by omega)
    have hk8 : k < 8 := Nat.lt_of_lt_of_le hk k0_t1_abs.2.1
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩
    have e1 : (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 (k + 1)).2.2.1 = (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩).2.2.1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.2.1 := by rw [e]
    obtain ⟨w, hw, ht⟩ : ∃ w, w = (cosB (arg3.view.read (Elt F) f3) (arg6.view.read (Elt F) f6)) ⟨k, hk8⟩ ∧ (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩).2.2.1 = [⟨Rect.unit (s := S2x256x128) (k0_off3 ⟨k, hk⟩) S1x32x128.size (k0_off3_inb i ⟨k, hk⟩ hc), w⟩] :=
      have hw := cos_loads (load_rows arg3.view f3 ⟨k, hk8⟩ (k0_off4_inb i ⟨k, hk⟩ hc) (k0_off4_eq ⟨k, hk⟩)) (View.readAt_full arg6.view f6 inb_S1x128_S1x128_0_0)
      ⟨_, hw, by unfold tripL_k0_t1 trip_k0_t1; exact rfl⟩
    rw [e1, ht]
    constructor
    · intro p hp x
      rcases List.mem_cons.mp hp with rfl | hp
      · exact (congrFun hw x).trans (slotG_emb _ _ (k0_off3_inb i ⟨k, hk⟩ hc) (p := ⟨k, hk8⟩) (k0_off3_eq ⟨k, hk⟩) x).symm
      · exact ih.1 p hp x
    · intro y hy h
      by_cases h' : (y 1).val < 32 * k
      · obtain ⟨p, hp, hm⟩ := ih.2 y hy h'
        exact ⟨p, List.mem_cons_of_mem _ hp, hm⟩
      · exact ⟨_, List.mem_cons_self, mem_slot _ (k0_off3_inb i ⟨k, hk⟩ hc) (p := k) (k0_off3_eq ⟨k, hk⟩) y hy (by show (y 1).val / 32 = k; omega)⟩

/-- The pieces the first point's loop leaves in scratch 17: they agree with `sinB` of the first block and, after trip `k`, cover the rows
    below `32 k` of slot 0. -/
theorem loop_sin (c : Dev nD) (i : grid0.Coords) (hc : k0_cond1 i = 1#1) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (f1 : BufTy.Contents (Elt F) arg1.view.ty) (f3 : BufTy.Contents (Elt F) arg3.view.ty) (f5 : BufTy.Contents (Elt F) arg5.view.ty) (f6 : BufTy.Contents (Elt F) arg6.view.ty) : ∀ k : ℕ, k ≤ k0_t1_loop.trips →
    (∀ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.2.2, ∀ x : p.1.shape.Idx, p.2 x = slotG (sinB (arg3.view.read (Elt F) f3) (arg6.view.read (Elt F) f6)) (p.1.emb x)) ∧
    (∀ y : S2x256x128.Idx, (y 0).val = 0 → (y 1).val < 32 * k → ∃ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.2.2, y ∈ p.1.set)
  | 0, _ => ⟨fun p hp => absurd hp List.not_mem_nil, fun y _ h => absurd h (Nat.not_lt_zero _)⟩
  | k + 1, hk => by
    have ih := loop_sin c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f3 f5 f6 k (by omega)
    have hk8 : k < 8 := Nat.lt_of_lt_of_le hk k0_t1_abs.2.1
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩
    have e1 : (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 (k + 1)).2.2.2 = (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩).2.2.2 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k).2.2.2 := by rw [e]
    obtain ⟨w, hw, ht⟩ : ∃ w, w = (sinB (arg3.view.read (Elt F) f3) (arg6.view.read (Elt F) f6)) ⟨k, hk8⟩ ∧ (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 ⟨k, hk⟩).2.2.2 = [⟨Rect.unit (s := S2x256x128) (k0_off3 ⟨k, hk⟩) S1x32x128.size (k0_off3_inb i ⟨k, hk⟩ hc), w⟩] :=
      have hw := sin_loads (load_rows arg3.view f3 ⟨k, hk8⟩ (k0_off4_inb i ⟨k, hk⟩ hc) (k0_off4_eq ⟨k, hk⟩)) (View.readAt_full arg6.view f6 inb_S1x128_S1x128_0_0)
      ⟨_, hw, by unfold tripL_k0_t1 trip_k0_t1; exact rfl⟩
    rw [e1, ht]
    constructor
    · intro p hp x
      rcases List.mem_cons.mp hp with rfl | hp
      · exact (congrFun hw x).trans (slotG_emb _ _ (k0_off3_inb i ⟨k, hk⟩ hc) (p := ⟨k, hk8⟩) (k0_off3_eq ⟨k, hk⟩) x).symm
      · exact ih.1 p hp x
    · intro y hy h
      by_cases h' : (y 1).val < 32 * k
      · obtain ⟨p, hp, hm⟩ := ih.2 y hy h'
        exact ⟨p, List.mem_cons_of_mem _ hp, hm⟩
      · exact ⟨_, List.mem_cons_self, mem_slot _ (k0_off3_inb i ⟨k, hk⟩ hc) (p := k) (k0_off3_eq ⟨k, hk⟩) y hy (by show (y 1).val / 32 = k; omega)⟩

/-- At the first grid point the body leaves the projections of the current slot's pieces in its outputs, and the next block's pieces in the other slot. -/
theorem kernelRunA (c : Dev nD) (i : grid0.Coords) (hc : k0_cond1 i = 1#1) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)   (hi : (i 0).val % 2 = 0) (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ ((arg9.reshape S2048x2x128 reshapes_S4096x128_S2048x2x128.1 reshapes_S4096x128_S2048x2x128.2 harg9.contiguous).view.loc (c : Thread nD τ) ↦[(arg9.reshape S2048x2x128 reshapes_S4096x128_S2048x2x128.1 reshapes_S4096x128_S2048x2x128.2 harg9.contiguous).view.set]{fullShare} f9) ∗ ((arg10.reshape S1024x2x128 reshapes_S2048x128_S1024x2x128.1 reshapes_S2048x128_S1024x2x128.2 harg10.contiguous).view.loc (c : Thread nD τ) ↦[(arg10.reshape S1024x2x128 reshapes_S2048x128_S1024x2x128.1 reshapes_S2048x128_S1024x2x128.2 harg10.contiguous).view.set]{fullShare} f10) ∗ ((arg11.reshape S1024x2x128 reshapes_S2048x128_S1024x2x128.1 reshapes_S2048x128_S1024x2x128.2 harg11.contiguous).view.loc (c : Thread nD τ) ↦[(arg11.reshape S1024x2x128 reshapes_S2048x128_S1024x2x128.1 reshapes_S2048x128_S1024x2x128.2 harg11.contiguous).view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g, ⌜(arg9.reshape S2048x2x128 reshapes_S4096x128_S2048x2x128.1 reshapes_S4096x128_S2048x2x128.2 harg9.contiguous).view.read (Elt F) g = octG fun n : Fin 8 => qTile (codesB (arg1.view.read (Elt F) f1) (arg5.view.read (Elt F) f5)) (scaleB (arg1.view.read (Elt F) f1) (arg5.view.read (Elt F) f5)) (cosB (arg3.view.read (Elt F) f3) (arg6.view.read (Elt F) f6)) (sinB (arg3.view.read (Elt F) f3) (arg6.view.read (Elt F) f6)) (arg7.view.read (Elt F) f7) (arg8.view.read (Elt F) f8) ⟨n.val, by omega⟩⌝ ∗ ((arg9.reshape S2048x2x128 reshapes_S4096x128_S2048x2x128.1 reshapes_S4096x128_S2048x2x128.2 harg9.contiguous).view.loc (c : Thread nD τ) ↦[(arg9.reshape S2048x2x128 reshapes_S4096x128_S2048x2x128.1 reshapes_S4096x128_S2048x2x128.2 harg9.contiguous).view.set]{fullShare} g)) ∗ (∃ g, ⌜(arg10.reshape S1024x2x128 reshapes_S2048x128_S1024x2x128.1 reshapes_S2048x128_S1024x2x128.2 harg10.contiguous).view.read (Elt F) g = quadG fun n : Fin 4 => qTile (codesB (arg1.view.read (Elt F) f1) (arg5.view.read (Elt F) f5)) (scaleB (arg1.view.read (Elt F) f1) (arg5.view.read (Elt F) f5)) (cosB (arg3.view.read (Elt F) f3) (arg6.view.read (Elt F) f6)) (sinB (arg3.view.read (Elt F) f3) (arg6.view.read (Elt F) f6)) (arg7.view.read (Elt F) f7) (arg8.view.read (Elt F) f8) ⟨n.val + 8, by omega⟩⌝ ∗ ((arg10.reshape S1024x2x128 reshapes_S2048x128_S1024x2x128.1 reshapes_S2048x128_S1024x2x128.2 harg10.contiguous).view.loc (c : Thread nD τ) ↦[(arg10.reshape S1024x2x128 reshapes_S2048x128_S1024x2x128.1 reshapes_S2048x128_S1024x2x128.2 harg10.contiguous).view.set]{fullShare} g)) ∗ (∃ g, ⌜(arg11.reshape S1024x2x128 reshapes_S2048x128_S1024x2x128.1 reshapes_S2048x128_S1024x2x128.2 harg11.contiguous).view.read (Elt F) g = quadG fun n : Fin 4 => vTile (codesB (arg1.view.read (Elt F) f1) (arg5.view.read (Elt F) f5)) (scaleB (arg1.view.read (Elt F) f1) (arg5.view.read (Elt F) f5)) (arg7.view.read (Elt F) f7) (arg8.view.read (Elt F) f8) ⟨n.val + 12, by omega⟩⌝ ∗ ((arg11.reshape S1024x2x128 reshapes_S2048x128_S1024x2x128.1 reshapes_S2048x128_S1024x2x128.2 harg11.contiguous).view.loc (c : Thread nD τ) ↦[(arg11.reshape S1024x2x128 reshapes_S2048x128_S1024x2x128.1 reshapes_S2048x128_S1024x2x128.2 harg11.contiguous).view.set]{fullShare} g)) ∗ (∃ g, ⌜arg12.view.read (Elt F) g = k0_pay10 (slab (codesB (arg1.view.read (Elt F) f1) (arg5.view.read (Elt F) f5)))⌝ ∗ (arg12.view.loc (c : Thread nD τ) ↦[arg12.view.set]{fullShare} g)) ∗ (∃ g, ⌜arg13.view.read (Elt F) g = k0_pay135 (k0_pay11 (slab (scaleB (arg1.view.read (Elt F) f1) (arg5.view.read (Elt F) f5))))⌝ ∗ (arg13.view.loc (c : Thread nD τ) ↦[arg13.view.set]{fullShare} g)) ∗ (∃ g, ⌜∀ y : S2x256x4608.Idx, (y 0).val = 1 - (i 0).val % 2 → arg14.view.read (Elt F) g y = slotG (codesB (arg2.view.read (Elt F) f2) (arg5.view.read (Elt F) f5)) y⌝ ∗ (arg14.view.loc (c : Thread nD τ) ↦[arg14.view.set]{fullShare} g)) ∗ (∃ g, ⌜∀ y : S2x256x128.Idx, (y 0).val = 1 - (i 0).val % 2 → arg15.view.read (Elt F) g y = slotG (scaleB (arg2.view.read (Elt F) f2) (arg5.view.read (Elt F) f5)) y⌝ ∗ (arg15.view.loc (c : Thread nD τ) ↦[arg15.view.set]{fullShare} g)) ∗ (∃ g, ⌜∀ y : S2x256x128.Idx, (y 0).val = 1 - (i 0).val % 2 → arg16.view.read (Elt F) g y = slotG (cosB (arg4.view.read (Elt F) f4) (arg6.view.read (Elt F) f6)) y⌝ ∗ (arg16.view.loc (c : Thread nD τ) ↦[arg16.view.set]{fullShare} g)) ∗ (∃ g, ⌜∀ y : S2x256x128.Idx, (y 0).val = 1 - (i 0).val % 2 → arg17.view.read (Elt F) g y = slotG (sinB (arg4.view.read (Elt F) f4) (arg6.view.read (Elt F) f6)) y⌝ ∗ (arg17.view.loc (c : Thread nD τ) ↦[arg17.view.set]{fullShare} g))) -∗ K ⟨⟩))
      ⊢ wp frame (wpE (defs₀ (F := F)) Variants.none (c : Thread nD τ) none) Set.univ (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_rmsnorm_fp8_qkv_rope_eq_skeleton]; unfold cc0_rmsnorm_fp8_qkv_rope_skel
  iintro ⟨H1, H2, H3, H4, H5, H6, H7, H8, H9, H10, H11, H12, H13, H14, H15, H16, H17, Hk⟩
  have h14' : ∀ y : S2x256x4608.Idx, (y 0).val = (i 0).val % 2 → arg14.view.read (Elt F) (arg14.view.writes (Elt F) f14 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k0_t1_loop.trips).1) y = slotG (codesB (arg1.view.read (Elt F) f1) (arg5.view.read (Elt F) f5)) y := fun y hy => by
    have t := loop_codes (F := F) c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f3 f5 f6 k0_t1_loop.trips le_rfl
    exact View.read_writes_apply_of_pieces _ _ _ _ t.1 y (t.2 y (hy.trans hi) (lt_of_lt_of_eq (y 1).isLt (by decide +kernel : 256 = 32 * k0_t1_loop.trips)))
  have h15' : ∀ y : S2x256x128.Idx, (y 0).val = (i 0).val % 2 → arg15.view.read (Elt F) (arg15.view.writes (Elt F) f15 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k0_t1_loop.trips).2.1) y = slotG (scaleB (arg1.view.read (Elt F) f1) (arg5.view.read (Elt F) f5)) y := fun y hy => by
    have t := loop_scale (F := F) c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f3 f5 f6 k0_t1_loop.trips le_rfl
    exact View.read_writes_apply_of_pieces _ _ _ _ t.1 y (t.2 y (hy.trans hi) (lt_of_lt_of_eq (y 1).isLt (by decide +kernel : 256 = 32 * k0_t1_loop.trips)))
  have h16' : ∀ y : S2x256x128.Idx, (y 0).val = (i 0).val % 2 → arg16.view.read (Elt F) (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k0_t1_loop.trips).2.2.1) y = slotG (cosB (arg3.view.read (Elt F) f3) (arg6.view.read (Elt F) f6)) y := fun y hy => by
    have t := loop_cos (F := F) c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f3 f5 f6 k0_t1_loop.trips le_rfl
    exact View.read_writes_apply_of_pieces _ _ _ _ t.1 y (t.2 y (hy.trans hi) (lt_of_lt_of_eq (y 1).isLt (by decide +kernel : 256 = 32 * k0_t1_loop.trips)))
  have h17' : ∀ y : S2x256x128.Idx, (y 0).val = (i 0).val % 2 → arg17.view.read (Elt F) (arg17.view.writes (Elt F) f17 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k0_t1_loop.trips).2.2.2) y = slotG (sinB (arg3.view.read (Elt F) f3) (arg6.view.read (Elt F) f6)) y := fun y hy => by
    have t := loop_sin (F := F) c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f3 f5 f6 k0_t1_loop.trips le_rfl
    exact View.read_writes_apply_of_pieces _ _ _ _ t.1 y (t.2 y (hy.trans hi) (lt_of_lt_of_eq (y 1).isLt (by decide +kernel : 256 = 32 * k0_t1_loop.trips)))
  have L14 : View.readAt (Elt F) arg14.view (Rect.unit (s := S2x256x4608) (k0_off5 i) S1x256x4608.size (k0_off5_inb i)).toLoadRect (arg14.view.writes (Elt F) f14 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k0_t1_loop.trips).1) = slab (codesB (arg1.view.read (Elt F) f1) (arg5.view.read (Elt F) f5)) := load_slab _ _ _ _ _ (k0_off5_eq i) h14'
  have L15 : View.readAt (Elt F) arg15.view (Rect.unit (s := S2x256x128) (k0_off6 i) S1x256x128.size (k0_off6_inb i)).toLoadRect (arg15.view.writes (Elt F) f15 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k0_t1_loop.trips).2.1) = slab (scaleB (arg1.view.read (Elt F) f1) (arg5.view.read (Elt F) f5)) := load_slab _ _ _ _ _ (k0_off6_eq i) h15'
  have L16 : View.readAt (Elt F) arg16.view (Rect.unit (s := S2x256x128) (k0_off6 i) S1x256x128.size (k0_off6_inb i)).toLoadRect (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k0_t1_loop.trips).2.2.1) = slab (cosB (arg3.view.read (Elt F) f3) (arg6.view.read (Elt F) f6)) := load_slab _ _ _ _ _ (k0_off6_eq i) h16'
  have L17 : View.readAt (Elt F) arg17.view (Rect.unit (s := S2x256x128) (k0_off6 i) S1x256x128.size (k0_off6_inb i)).toLoadRect (arg17.view.writes (Elt F) f17 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f3 f5 f6 k0_t1_loop.trips).2.2.2) = slab (sinB (arg3.view.read (Elt F) f3) (arg6.view.read (Elt F) f6)) := load_slab _ _ _ _ _ (k0_off6_eq i) h17'
  have T0 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 0 rfl rfl rfl rfl (load_wcols arg7.view f7 0 inb_S4608x4096_S4608x256_0_0 rfl) (load_scols arg8.view f8 ⟨2 * (0 : Fin 16).val, by decide⟩ inb_S1x4096_S1x128_0_0 rfl) (load_scols arg8.view f8 ⟨2 * (0 : Fin 16).val + 1, by decide⟩ inb_S1x4096_S1x128_0_128 rfl)
  have T1 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 1 rfl rfl rfl rfl (load_wcols arg7.view f7 1 inb_S4608x4096_S4608x256_0_256 rfl) (load_scols arg8.view f8 ⟨2 * (1 : Fin 16).val, by decide⟩ inb_S1x4096_S1x128_0_256 rfl) (load_scols arg8.view f8 ⟨2 * (1 : Fin 16).val + 1, by decide⟩ inb_S1x4096_S1x128_0_384 rfl)
  have T2 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 2 rfl rfl rfl rfl (load_wcols arg7.view f7 2 inb_S4608x4096_S4608x256_0_512 rfl) (load_scols arg8.view f8 ⟨2 * (2 : Fin 16).val, by decide⟩ inb_S1x4096_S1x128_0_512 rfl) (load_scols arg8.view f8 ⟨2 * (2 : Fin 16).val + 1, by decide⟩ inb_S1x4096_S1x128_0_640 rfl)
  have T3 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 3 rfl rfl rfl rfl (load_wcols arg7.view f7 3 inb_S4608x4096_S4608x256_0_768 rfl) (load_scols arg8.view f8 ⟨2 * (3 : Fin 16).val, by decide⟩ inb_S1x4096_S1x128_0_768 rfl) (load_scols arg8.view f8 ⟨2 * (3 : Fin 16).val + 1, by decide⟩ inb_S1x4096_S1x128_0_896 rfl)
  have T4 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 4 rfl rfl rfl rfl (load_wcols arg7.view f7 4 inb_S4608x4096_S4608x256_0_1024 rfl) (load_scols arg8.view f8 ⟨2 * (4 : Fin 16).val, by decide⟩ inb_S1x4096_S1x128_0_1024 rfl) (load_scols arg8.view f8 ⟨2 * (4 : Fin 16).val + 1, by decide⟩ inb_S1x4096_S1x128_0_1152 rfl)
  have T5 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 5 rfl rfl rfl rfl (load_wcols arg7.view f7 5 inb_S4608x4096_S4608x256_0_1280 rfl) (load_scols arg8.view f8 ⟨2 * (5 : Fin 16).val, by decide⟩ inb_S1x4096_S1x128_0_1280 rfl) (load_scols arg8.view f8 ⟨2 * (5 : Fin 16).val + 1, by decide⟩ inb_S1x4096_S1x128_0_1408 rfl)
  have T6 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 6 rfl rfl rfl rfl (load_wcols arg7.view f7 6 inb_S4608x4096_S4608x256_0_1536 rfl) (load_scols arg8.view f8 ⟨2 * (6 : Fin 16).val, by decide⟩ inb_S1x4096_S1x128_0_1536 rfl) (load_scols arg8.view f8 ⟨2 * (6 : Fin 16).val + 1, by decide⟩ inb_S1x4096_S1x128_0_1664 rfl)
  have T7 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 7 rfl rfl rfl rfl (load_wcols arg7.view f7 7 inb_S4608x4096_S4608x256_0_1792 rfl) (load_scols arg8.view f8 ⟨2 * (7 : Fin 16).val, by decide⟩ inb_S1x4096_S1x128_0_1792 rfl) (load_scols arg8.view f8 ⟨2 * (7 : Fin 16).val + 1, by decide⟩ inb_S1x4096_S1x128_0_1920 rfl)
  have T8 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 8 rfl rfl rfl rfl (load_wcols arg7.view f7 8 inb_S4608x4096_S4608x256_0_2048 rfl) (load_scols arg8.view f8 ⟨2 * (8 : Fin 16).val, by decide⟩ inb_S1x4096_S1x128_0_2048 rfl) (load_scols arg8.view f8 ⟨2 * (8 : Fin 16).val + 1, by decide⟩ inb_S1x4096_S1x128_0_2176 rfl)
  have T9 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 9 rfl rfl rfl rfl (load_wcols arg7.view f7 9 inb_S4608x4096_S4608x256_0_2304 rfl) (load_scols arg8.view f8 ⟨2 * (9 : Fin 16).val, by decide⟩ inb_S1x4096_S1x128_0_2304 rfl) (load_scols arg8.view f8 ⟨2 * (9 : Fin 16).val + 1, by decide⟩ inb_S1x4096_S1x128_0_2432 rfl)
  have T10 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 10 rfl rfl rfl rfl (load_wcols arg7.view f7 10 inb_S4608x4096_S4608x256_0_2560 rfl) (load_scols arg8.view f8 ⟨2 * (10 : Fin 16).val, by decide⟩ inb_S1x4096_S1x128_0_2560 rfl) (load_scols arg8.view f8 ⟨2 * (10 : Fin 16).val + 1, by decide⟩ inb_S1x4096_S1x128_0_2688 rfl)
  have T11 := qTile_loads (Bc := (codesB (arg1.view.read (Elt F) f1) (arg5.view.read (Elt F) f5))) (Bs := (scaleB (arg1.view.read (Elt F) f1) (arg5.view.read (Elt F) f5))) (Bo := (cosB (arg3.view.read (Elt F) f3) (arg6.view.read (Elt F) f6))) (Bi := (sinB (arg3.view.read (Elt F) f3) (arg6.view.read (Elt F) f6))) 11 rfl rfl rfl rfl (load_wcols arg7.view f7 11 inb_S4608x4096_S4608x256_0_2816 rfl) (load_scols arg8.view f8 ⟨2 * (11 : Fin 16).val, by decide⟩ inb_S1x4096_S1x128_0_2816 rfl) (load_scols arg8.view f8 ⟨2 * (11 : Fin 16).val + 1, by decide⟩ inb_S1x4096_S1x128_0_2944 rfl)
  have T12 := vTile_loads (Bc := (codesB (arg1.view.read (Elt F) f1) (arg5.view.read (Elt F) f5))) (Bs := (scaleB (arg1.view.read (Elt F) f1) (arg5.view.read (Elt F) f5))) 12 rfl rfl (load_wcols arg7.view f7 12 inb_S4608x4096_S4608x256_0_3072 rfl) (load_scols arg8.view f8 ⟨2 * (12 : Fin 16).val, by decide⟩ inb_S1x4096_S1x128_0_3072 rfl) (load_scols arg8.view f8 ⟨2 * (12 : Fin 16).val + 1, by decide⟩ inb_S1x4096_S1x128_0_3200 rfl)
  have T13 := vTile_loads (Bc := (codesB (arg1.view.read (Elt F) f1) (arg5.view.read (Elt F) f5))) (Bs := (scaleB (arg1.view.read (Elt F) f1) (arg5.view.read (Elt F) f5))) 13 rfl rfl (load_wcols arg7.view f7 13 inb_S4608x4096_S4608x256_0_3328 rfl) (load_scols arg8.view f8 ⟨2 * (13 : Fin 16).val, by decide⟩ inb_S1x4096_S1x128_0_3328 rfl) (load_scols arg8.view f8 ⟨2 * (13 : Fin 16).val + 1, by decide⟩ inb_S1x4096_S1x128_0_3456 rfl)
  have T14 := vTile_loads (Bc := (codesB (arg1.view.read (Elt F) f1) (arg5.view.read (Elt F) f5))) (Bs := (scaleB (arg1.view.read (Elt F) f1) (arg5.view.read (Elt F) f5))) 14 rfl rfl (load_wcols arg7.view f7 14 inb_S4608x4096_S4608x256_0_3584 rfl) (load_scols arg8.view f8 ⟨2 * (14 : Fin 16).val, by decide⟩ inb_S1x4096_S1x128_0_3584 rfl) (load_scols arg8.view f8 ⟨2 * (14 : Fin 16).val + 1, by decide⟩ inb_S1x4096_S1x128_0_3712 rfl)
  have T15 := vTile_loads (Bc := (codesB (arg1.view.read (Elt F) f1) (arg5.view.read (Elt F) f5))) (Bs := (scaleB (arg1.view.read (Elt F) f1) (arg5.view.read (Elt F) f5))) 15 rfl rfl (load_wcols arg7.view f7 15 inb_S4608x4096_S4608x256_0_3840 rfl) (load_scols arg8.view f8 ⟨2 * (15 : Fin 16).val, by decide⟩ inb_S1x4096_S1x128_0_3840 rfl) (load_scols arg8.view f8 ⟨2 * (15 : Fin 16).val + 1, by decide⟩ inb_S1x4096_S1x128_0_3968 rfl)
  have codes0 := codes_loads (load_rows arg2.view f2 0 inb_S256x4608_S32x4608_0_0 rfl) (View.readAt_full arg5.view f5 inb_S1x4608_S1x4608_0_0)
  have codes1 := codes_loads (load_rows arg2.view f2 1 inb_S256x4608_S32x4608_32_0 rfl) (View.readAt_full arg5.view f5 inb_S1x4608_S1x4608_0_0)
  have codes2 := codes_loads (load_rows arg2.view f2 2 inb_S256x4608_S32x4608_64_0 rfl) (View.readAt_full arg5.view f5 inb_S1x4608_S1x4608_0_0)
  have codes3 := codes_loads (load_rows arg2.view f2 3 inb_S256x4608_S32x4608_96_0 rfl) (View.readAt_full arg5.view f5 inb_S1x4608_S1x4608_0_0)
  have codes4 := codes_loads (load_rows arg2.view f2 4 inb_S256x4608_S32x4608_128_0 rfl) (View.readAt_full arg5.view f5 inb_S1x4608_S1x4608_0_0)
  have codes5 := codes_loads (load_rows arg2.view f2 5 inb_S256x4608_S32x4608_160_0 rfl) (View.readAt_full arg5.view f5 inb_S1x4608_S1x4608_0_0)
  have codes6 := codes_loads (load_rows arg2.view f2 6 inb_S256x4608_S32x4608_192_0 rfl) (View.readAt_full arg5.view f5 inb_S1x4608_S1x4608_0_0)
  have codes7 := codes_loads (load_rows arg2.view f2 7 inb_S256x4608_S32x4608_224_0 rfl) (View.readAt_full arg5.view f5 inb_S1x4608_S1x4608_0_0)
  have scale0 := scale_loads (load_rows arg2.view f2 0 inb_S256x4608_S32x4608_0_0 rfl) (View.readAt_full arg5.view f5 inb_S1x4608_S1x4608_0_0)
  have scale1 := scale_loads (load_rows arg2.view f2 1 inb_S256x4608_S32x4608_32_0 rfl) (View.readAt_full arg5.view f5 inb_S1x4608_S1x4608_0_0)
  have scale2 := scale_loads (load_rows arg2.view f2 2 inb_S256x4608_S32x4608_64_0 rfl) (View.readAt_full arg5.view f5 inb_S1x4608_S1x4608_0_0)
  have scale3 := scale_loads (load_rows arg2.view f2 3 inb_S256x4608_S32x4608_96_0 rfl) (View.readAt_full arg5.view f5 inb_S1x4608_S1x4608_0_0)
  have scale4 := scale_loads (load_rows arg2.view f2 4 inb_S256x4608_S32x4608_128_0 rfl) (View.readAt_full arg5.view f5 inb_S1x4608_S1x4608_0_0)
  have scale5 := scale_loads (load_rows arg2.view f2 5 inb_S256x4608_S32x4608_160_0 rfl) (View.readAt_full arg5.view f5 inb_S1x4608_S1x4608_0_0)
  have scale6 := scale_loads (load_rows arg2.view f2 6 inb_S256x4608_S32x4608_192_0 rfl) (View.readAt_full arg5.view f5 inb_S1x4608_S1x4608_0_0)
  have scale7 := scale_loads (load_rows arg2.view f2 7 inb_S256x4608_S32x4608_224_0 rfl) (View.readAt_full arg5.view f5 inb_S1x4608_S1x4608_0_0)
  have cos0 := cos_loads (load_rows arg4.view f4 0 inb_S256x1_S32x1_0_0 rfl) (View.readAt_full arg6.view f6 inb_S1x128_S1x128_0_0)
  have cos1 := cos_loads (load_rows arg4.view f4 1 inb_S256x1_S32x1_32_0 rfl) (View.readAt_full arg6.view f6 inb_S1x128_S1x128_0_0)
  have cos2 := cos_loads (load_rows arg4.view f4 2 inb_S256x1_S32x1_64_0 rfl) (View.readAt_full arg6.view f6 inb_S1x128_S1x128_0_0)
  have cos3 := cos_loads (load_rows arg4.view f4 3 inb_S256x1_S32x1_96_0 rfl) (View.readAt_full arg6.view f6 inb_S1x128_S1x128_0_0)
  have cos4 := cos_loads (load_rows arg4.view f4 4 inb_S256x1_S32x1_128_0 rfl) (View.readAt_full arg6.view f6 inb_S1x128_S1x128_0_0)
  have cos5 := cos_loads (load_rows arg4.view f4 5 inb_S256x1_S32x1_160_0 rfl) (View.readAt_full arg6.view f6 inb_S1x128_S1x128_0_0)
  have cos6 := cos_loads (load_rows arg4.view f4 6 inb_S256x1_S32x1_192_0 rfl) (View.readAt_full arg6.view f6 inb_S1x128_S1x128_0_0)
  have cos7 := cos_loads (load_rows arg4.view f4 7 inb_S256x1_S32x1_224_0 rfl) (View.readAt_full arg6.view f6 inb_S1x128_S1x128_0_0)
  have sin0 := sin_loads (load_rows arg4.view f4 0 inb_S256x1_S32x1_0_0 rfl) (View.readAt_full arg6.view f6 inb_S1x128_S1x128_0_0)
  have sin1 := sin_loads (load_rows arg4.view f4 1 inb_S256x1_S32x1_32_0 rfl) (View.readAt_full arg6.view f6 inb_S1x128_S1x128_0_0)
  have sin2 := sin_loads (load_rows arg4.view f4 2 inb_S256x1_S32x1_64_0 rfl) (View.readAt_full arg6.view f6 inb_S1x128_S1x128_0_0)
  have sin3 := sin_loads (load_rows arg4.view f4 3 inb_S256x1_S32x1_96_0 rfl) (View.readAt_full arg6.view f6 inb_S1x128_S1x128_0_0)
  have sin4 := sin_loads (load_rows arg4.view f4 4 inb_S256x1_S32x1_128_0 rfl) (View.readAt_full arg6.view f6 inb_S1x128_S1x128_0_0)
  have sin5 := sin_loads (load_rows arg4.view f4 5 inb_S256x1_S32x1_160_0 rfl) (View.readAt_full arg6.view f6 inb_S1x128_S1x128_0_0)
  have sin6 := sin_loads (load_rows arg4.view f4 6 inb_S256x1_S32x1_192_0 rfl) (View.readAt_full arg6.view f6 inb_S1x128_S1x128_0_0)
  have sin7 := sin_loads (load_rows arg4.view f4 7 inb_S256x1_S32x1_224_0 rfl) (View.readAt_full arg6.view f6 inb_S1x128_S1x128_0_0)
  sl_exec (disch := sl_exact hc)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro
    exact read_oct _ _ _ _ _ _ _ _ _ _ _ _ _ _ _ _ _ _ _ _ _ _ _ _ _ _ _ T0 T1 T2 T3 T4 T5 T6 T7
  isplitl [H10]
  · iexists _; isplitr; swap; · iexact H10
    ipureintro
    exact read_quad _ _ _ _ _ _ _ _ _ _ _ _ _ _ _ T8 T9 T10 T11
  isplitl [H11]
  · iexists _; isplitr; swap; · iexact H11
    ipureintro
    exact read_quad _ _ _ _ _ _ _ _ _ _ _ _ _ _ _ T12 T13 T14 T15
  isplitl [H12]
  · iexists _; isplitr; swap; · iexact H12
    ipureintro
    exact read_whole _ _ _ _
  isplitl [H13]
  · iexists _; isplitr; swap; · iexact H13
    ipureintro
    exact read_whole _ _ _ _
  isplitl [H14]
  · iexists _; isplitr; swap; · iexact H14
    ipureintro
    exact read_slot _ _ _ _ _ _ _ _ _ _ _ _ _ _ _ _ _ _ _ _ (k0_off7_eq i) (k0_off9_eq i) (k0_off11_eq i) (k0_off13_eq i) (k0_off15_eq i) (k0_off17_eq i) (k0_off19_eq i) (k0_off21_eq i) codes0 codes1 codes2 codes3 codes4 codes5 codes6 codes7
  isplitl [H15]
  · iexists _; isplitr; swap; · iexact H15
    ipureintro
    exact read_slot _ _ _ _ _ _ _ _ _ _ _ _ _ _ _ _ _ _ _ _ (k0_off8_eq i) (k0_off10_eq i) (k0_off12_eq i) (k0_off14_eq i) (k0_off16_eq i) (k0_off18_eq i) (k0_off20_eq i) (k0_off22_eq i) scale0 scale1 scale2 scale3 scale4 scale5 scale6 scale7
  isplitl [H16]
  · iexists _; isplitr; swap; · iexact H16
    ipureintro
    exact read_slot _ _ _ _ _ _ _ _ _ _ _ _ _ _ _ _ _ _ _ _ (k0_off8_eq i) (k0_off10_eq i) (k0_off12_eq i) (k0_off14_eq i) (k0_off16_eq i) (k0_off18_eq i) (k0_off20_eq i) (k0_off22_eq i) cos0 cos1 cos2 cos3 cos4 cos5 cos6 cos7
  iexists _; isplitr; swap; · iexact H17
  ipureintro
  exact read_slot _ _ _ _ _ _ _ _ _ _ _ _ _ _ _ _ _ _ _ _ (k0_off8_eq i) (k0_off10_eq i) (k0_off12_eq i) (k0_off14_eq i) (k0_off16_eq i) (k0_off18_eq i) (k0_off20_eq i) (k0_off22_eq i) sin0 sin1 sin2 sin3 sin4 sin5 sin6 sin7

end Cert.KernelIdeal.Val

end
-- ==== Proof.BodyB.lean ====
/- Hand-written, untrusted. The body's run at a later grid point: what each output and each scratch holds afterwards. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.Pieces
public import proofs.«01_k».proof.Proof.Tiles

@[expose] public section

set_option maxRecDepth 16384
set_option maxHeartbeats 4000000

noncomputable section

namespace Cert.KernelIdeal.Val

open Cert.KernelIdeal Cert.KernelIdeal.Gen Cert.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- At a later grid point the body leaves the projections of the current slot's pieces in its outputs, and the next block's pieces in the other slot. -/
theorem kernelRunB (c : Dev nD) (i : grid0.Coords) (hc : ¬ k0_cond1 i = 1#1) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (Bc : Fin 8 → FVec F S1x32x4608 .fp8e4m3) (Bs Bo Bi : Fin 8 → FVec F S1x32x128 .f32) (h14 : ∀ y : S2x256x4608.Idx, (y 0).val = (i 0).val % 2 → (arg14.view.read (Elt F) f14) y = slotG Bc y) (h15 : ∀ y : S2x256x128.Idx, (y 0).val = (i 0).val % 2 → (arg15.view.read (Elt F) f15) y = slotG Bs y) (h16 : ∀ y : S2x256x128.Idx, (y 0).val = (i 0).val % 2 → (arg16.view.read (Elt F) f16) y = slotG Bo y) (h17 : ∀ y : S2x256x128.Idx, (y 0).val = (i 0).val % 2 → (arg17.view.read (Elt F) f17) y = slotG Bi y)  (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ ((arg9.reshape S2048x2x128 reshapes_S4096x128_S2048x2x128.1 reshapes_S4096x128_S2048x2x128.2 harg9.contiguous).view.loc (c : Thread nD τ) ↦[(arg9.reshape S2048x2x128 reshapes_S4096x128_S2048x2x128.1 reshapes_S4096x128_S2048x2x128.2 harg9.contiguous).view.set]{fullShare} f9) ∗ ((arg10.reshape S1024x2x128 reshapes_S2048x128_S1024x2x128.1 reshapes_S2048x128_S1024x2x128.2 harg10.contiguous).view.loc (c : Thread nD τ) ↦[(arg10.reshape S1024x2x128 reshapes_S2048x128_S1024x2x128.1 reshapes_S2048x128_S1024x2x128.2 harg10.contiguous).view.set]{fullShare} f10) ∗ ((arg11.reshape S1024x2x128 reshapes_S2048x128_S1024x2x128.1 reshapes_S2048x128_S1024x2x128.2 harg11.contiguous).view.loc (c : Thread nD τ) ↦[(arg11.reshape S1024x2x128 reshapes_S2048x128_S1024x2x128.1 reshapes_S2048x128_S1024x2x128.2 harg11.contiguous).view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g, ⌜(arg9.reshape S2048x2x128 reshapes_S4096x128_S2048x2x128.1 reshapes_S4096x128_S2048x2x128.2 harg9.contiguous).view.read (Elt F) g = octG fun n : Fin 8 => qTile Bc Bs Bo Bi (arg7.view.read (Elt F) f7) (arg8.view.read (Elt F) f8) ⟨n.val, by omega⟩⌝ ∗ ((arg9.reshape S2048x2x128 reshapes_S4096x128_S2048x2x128.1 reshapes_S4096x128_S2048x2x128.2 harg9.contiguous).view.loc (c : Thread nD τ) ↦[(arg9.reshape S2048x2x128 reshapes_S4096x128_S2048x2x128.1 reshapes_S4096x128_S2048x2x128.2 harg9.contiguous).view.set]{fullShare} g)) ∗ (∃ g, ⌜(arg10.reshape S1024x2x128 reshapes_S2048x128_S1024x2x128.1 reshapes_S2048x128_S1024x2x128.2 harg10.contiguous).view.read (Elt F) g = quadG fun n : Fin 4 => qTile Bc Bs Bo Bi (arg7.view.read (Elt F) f7) (arg8.view.read (Elt F) f8) ⟨n.val + 8, by omega⟩⌝ ∗ ((arg10.reshape S1024x2x128 reshapes_S2048x128_S1024x2x128.1 reshapes_S2048x128_S1024x2x128.2 harg10.contiguous).view.loc (c : Thread nD τ) ↦[(arg10.reshape S1024x2x128 reshapes_S2048x128_S1024x2x128.1 reshapes_S2048x128_S1024x2x128.2 harg10.contiguous).view.set]{fullShare} g)) ∗ (∃ g, ⌜(arg11.reshape S1024x2x128 reshapes_S2048x128_S1024x2x128.1 reshapes_S2048x128_S1024x2x128.2 harg11.contiguous).view.read (Elt F) g = quadG fun n : Fin 4 => vTile Bc Bs (arg7.view.read (Elt F) f7) (arg8.view.read (Elt F) f8) ⟨n.val + 12, by omega⟩⌝ ∗ ((arg11.reshape S1024x2x128 reshapes_S2048x128_S1024x2x128.1 reshapes_S2048x128_S1024x2x128.2 harg11.contiguous).view.loc (c : Thread nD τ) ↦[(arg11.reshape S1024x2x128 reshapes_S2048x128_S1024x2x128.1 reshapes_S2048x128_S1024x2x128.2 harg11.contiguous).view.set]{fullShare} g)) ∗ (∃ g, ⌜arg12.view.read (Elt F) g = k0_pay10 (slab Bc)⌝ ∗ (arg12.view.loc (c : Thread nD τ) ↦[arg12.view.set]{fullShare} g)) ∗ (∃ g, ⌜arg13.view.read (Elt F) g = k0_pay135 (k0_pay11 (slab Bs))⌝ ∗ (arg13.view.loc (c : Thread nD τ) ↦[arg13.view.set]{fullShare} g)) ∗ (∃ g, ⌜∀ y : S2x256x4608.Idx, (y 0).val = 1 - (i 0).val % 2 → arg14.view.read (Elt F) g y = slotG (codesB (arg2.view.read (Elt F) f2) (arg5.view.read (Elt F) f5)) y⌝ ∗ (arg14.view.loc (c : Thread nD τ) ↦[arg14.view.set]{fullShare} g)) ∗ (∃ g, ⌜∀ y : S2x256x128.Idx, (y 0).val = 1 - (i 0).val % 2 → arg15.view.read (Elt F) g y = slotG (scaleB (arg2.view.read (Elt F) f2) (arg5.view.read (Elt F) f5)) y⌝ ∗ (arg15.view.loc (c : Thread nD τ) ↦[arg15.view.set]{fullShare} g)) ∗ (∃ g, ⌜∀ y : S2x256x128.Idx, (y 0).val = 1 - (i 0).val % 2 → arg16.view.read (Elt F) g y = slotG (cosB (arg4.view.read (Elt F) f4) (arg6.view.read (Elt F) f6)) y⌝ ∗ (arg16.view.loc (c : Thread nD τ) ↦[arg16.view.set]{fullShare} g)) ∗ (∃ g, ⌜∀ y : S2x256x128.Idx, (y 0).val = 1 - (i 0).val % 2 → arg17.view.read (Elt F) g y = slotG (sinB (arg4.view.read (Elt F) f4) (arg6.view.read (Elt F) f6)) y⌝ ∗ (arg17.view.loc (c : Thread nD τ) ↦[arg17.view.set]{fullShare} g))) -∗ K ⟨⟩))
      ⊢ wp frame (wpE (defs₀ (F := F)) Variants.none (c : Thread nD τ) none) Set.univ (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_rmsnorm_fp8_qkv_rope_eq_skeleton]; unfold cc0_rmsnorm_fp8_qkv_rope_skel
  iintro ⟨H1, H2, H3, H4, H5, H6, H7, H8, H9, H10, H11, H12, H13, H14, H15, H16, H17, Hk⟩
  have L14 : View.readAt (Elt F) arg14.view (Rect.unit (s := S2x256x4608) (k0_off5 i) S1x256x4608.size (k0_off5_inb i)).toLoadRect f14 = slab Bc := load_slab _ _ _ _ _ (k0_off5_eq i) h14
  have L15 : View.readAt (Elt F) arg15.view (Rect.unit (s := S2x256x128) (k0_off6 i) S1x256x128.size (k0_off6_inb i)).toLoadRect f15 = slab Bs := load_slab _ _ _ _ _ (k0_off6_eq i) h15
  have L16 : View.readAt (Elt F) arg16.view (Rect.unit (s := S2x256x128) (k0_off6 i) S1x256x128.size (k0_off6_inb i)).toLoadRect f16 = slab Bo := load_slab _ _ _ _ _ (k0_off6_eq i) h16
  have L17 : View.readAt (Elt F) arg17.view (Rect.unit (s := S2x256x128) (k0_off6 i) S1x256x128.size (k0_off6_inb i)).toLoadRect f17 = slab Bi := load_slab _ _ _ _ _ (k0_off6_eq i) h17
  have T0 := qTile_loads (Bc := Bc) (Bs := Bs) (Bo := Bo) (Bi := Bi) 0 rfl rfl rfl rfl (load_wcols arg7.view f7 0 inb_S4608x4096_S4608x256_0_0 rfl) (load_scols arg8.view f8 ⟨2 * (0 : Fin 16).val, by decide⟩ inb_S1x4096_S1x128_0_0 rfl) (load_scols arg8.view f8 ⟨2 * (0 : Fin 16).val + 1, by decide⟩ inb_S1x4096_S1x128_0_128 rfl)
  have T1 := qTile_loads (Bc := Bc) (Bs := Bs) (Bo := Bo) (Bi := Bi) 1 rfl rfl rfl rfl (load_wcols arg7.view f7 1 inb_S4608x4096_S4608x256_0_256 rfl) (load_scols arg8.view f8 ⟨2 * (1 : Fin 16).val, by decide⟩ inb_S1x4096_S1x128_0_256 rfl) (load_scols arg8.view f8 ⟨2 * (1 : Fin 16).val + 1, by decide⟩ inb_S1x4096_S1x128_0_384 rfl)
  have T2 := qTile_loads (Bc := Bc) (Bs := Bs) (Bo := Bo) (Bi := Bi) 2 rfl rfl rfl rfl (load_wcols arg7.view f7 2 inb_S4608x4096_S4608x256_0_512 rfl) (load_scols arg8.view f8 ⟨2 * (2 : Fin 16).val, by decide⟩ inb_S1x4096_S1x128_0_512 rfl) (load_scols arg8.view f8 ⟨2 * (2 : Fin 16).val + 1, by decide⟩ inb_S1x4096_S1x128_0_640 rfl)
  have T3 := qTile_loads (Bc := Bc) (Bs := Bs) (Bo := Bo) (Bi := Bi) 3 rfl rfl rfl rfl (load_wcols arg7.view f7 3 inb_S4608x4096_S4608x256_0_768 rfl) (load_scols arg8.view f8 ⟨2 * (3 : Fin 16).val, by decide⟩ inb_S1x4096_S1x128_0_768 rfl) (load_scols arg8.view f8 ⟨2 * (3 : Fin 16).val + 1, by decide⟩ inb_S1x4096_S1x128_0_896 rfl)
  have T4 := qTile_loads (Bc := Bc) (Bs := Bs) (Bo := Bo) (Bi := Bi) 4 rfl rfl rfl rfl (load_wcols arg7.view f7 4 inb_S4608x4096_S4608x256_0_1024 rfl) (load_scols arg8.view f8 ⟨2 * (4 : Fin 16).val, by decide⟩ inb_S1x4096_S1x128_0_1024 rfl) (load_scols arg8.view f8 ⟨2 * (4 : Fin 16).val + 1, by decide⟩ inb_S1x4096_S1x128_0_1152 rfl)
  have T5 := qTile_loads (Bc := Bc) (Bs := Bs) (Bo := Bo) (Bi := Bi) 5 rfl rfl rfl rfl (load_wcols arg7.view f7 5 inb_S4608x4096_S4608x256_0_1280 rfl) (load_scols arg8.view f8 ⟨2 * (5 : Fin 16).val, by decide⟩ inb_S1x4096_S1x128_0_1280 rfl) (load_scols arg8.view f8 ⟨2 * (5 : Fin 16).val + 1, by decide⟩ inb_S1x4096_S1x128_0_1408 rfl)
  have T6 := qTile_loads (Bc := Bc) (Bs := Bs) (Bo := Bo) (Bi := Bi) 6 rfl rfl rfl rfl (load_wcols arg7.view f7 6 inb_S4608x4096_S4608x256_0_1536 rfl) (load_scols arg8.view f8 ⟨2 * (6 : Fin 16).val, by decide⟩ inb_S1x4096_S1x128_0_1536 rfl) (load_scols arg8.view f8 ⟨2 * (6 : Fin 16).val + 1, by decide⟩ inb_S1x4096_S1x128_0_1664 rfl)
  have T7 := qTile_loads (Bc := Bc) (Bs := Bs) (Bo := Bo) (Bi := Bi) 7 rfl rfl rfl rfl (load_wcols arg7.view f7 7 inb_S4608x4096_S4608x256_0_1792 rfl) (load_scols arg8.view f8 ⟨2 * (7 : Fin 16).val, by decide⟩ inb_S1x4096_S1x128_0_1792 rfl) (load_scols arg8.view f8 ⟨2 * (7 : Fin 16).val + 1, by decide⟩ inb_S1x4096_S1x128_0_1920 rfl)
  have T8 := qTile_loads (Bc := Bc) (Bs := Bs) (Bo := Bo) (Bi := Bi) 8 rfl rfl rfl rfl (load_wcols arg7.view f7 8 inb_S4608x4096_S4608x256_0_2048 rfl) (load_scols arg8.view f8 ⟨2 * (8 : Fin 16).val, by decide⟩ inb_S1x4096_S1x128_0_2048 rfl) (load_scols arg8.view f8 ⟨2 * (8 : Fin 16).val + 1, by decide⟩ inb_S1x4096_S1x128_0_2176 rfl)
  have T9 := qTile_loads (Bc := Bc) (Bs := Bs) (Bo := Bo) (Bi := Bi) 9 rfl rfl rfl rfl (load_wcols arg7.view f7 9 inb_S4608x4096_S4608x256_0_2304 rfl) (load_scols arg8.view f8 ⟨2 * (9 : Fin 16).val, by decide⟩ inb_S1x4096_S1x128_0_2304 rfl) (load_scols arg8.view f8 ⟨2 * (9 : Fin 16).val + 1, by decide⟩ inb_S1x4096_S1x128_0_2432 rfl)
  have T10 := qTile_loads (Bc := Bc) (Bs := Bs) (Bo := Bo) (Bi := Bi) 10 rfl rfl rfl rfl (load_wcols arg7.view f7 10 inb_S4608x4096_S4608x256_0_2560 rfl) (load_scols arg8.view f8 ⟨2 * (10 : Fin 16).val, by decide⟩ inb_S1x4096_S1x128_0_2560 rfl) (load_scols arg8.view f8 ⟨2 * (10 : Fin 16).val + 1, by decide⟩ inb_S1x4096_S1x128_0_2688 rfl)
  have T11 := qTile_loads (Bc := Bc) (Bs := Bs) (Bo := Bo) (Bi := Bi) 11 rfl rfl rfl rfl (load_wcols arg7.view f7 11 inb_S4608x4096_S4608x256_0_2816 rfl) (load_scols arg8.view f8 ⟨2 * (11 : Fin 16).val, by decide⟩ inb_S1x4096_S1x128_0_2816 rfl) (load_scols arg8.view f8 ⟨2 * (11 : Fin 16).val + 1, by decide⟩ inb_S1x4096_S1x128_0_2944 rfl)
  have T12 := vTile_loads (Bc := Bc) (Bs := Bs) 12 rfl rfl (load_wcols arg7.view f7 12 inb_S4608x4096_S4608x256_0_3072 rfl) (load_scols arg8.view f8 ⟨2 * (12 : Fin 16).val, by decide⟩ inb_S1x4096_S1x128_0_3072 rfl) (load_scols arg8.view f8 ⟨2 * (12 : Fin 16).val + 1, by decide⟩ inb_S1x4096_S1x128_0_3200 rfl)
  have T13 := vTile_loads (Bc := Bc) (Bs := Bs) 13 rfl rfl (load_wcols arg7.view f7 13 inb_S4608x4096_S4608x256_0_3328 rfl) (load_scols arg8.view f8 ⟨2 * (13 : Fin 16).val, by decide⟩ inb_S1x4096_S1x128_0_3328 rfl) (load_scols arg8.view f8 ⟨2 * (13 : Fin 16).val + 1, by decide⟩ inb_S1x4096_S1x128_0_3456 rfl)
  have T14 := vTile_loads (Bc := Bc) (Bs := Bs) 14 rfl rfl (load_wcols arg7.view f7 14 inb_S4608x4096_S4608x256_0_3584 rfl) (load_scols arg8.view f8 ⟨2 * (14 : Fin 16).val, by decide⟩ inb_S1x4096_S1x128_0_3584 rfl) (load_scols arg8.view f8 ⟨2 * (14 : Fin 16).val + 1, by decide⟩ inb_S1x4096_S1x128_0_3712 rfl)
  have T15 := vTile_loads (Bc := Bc) (Bs := Bs) 15 rfl rfl (load_wcols arg7.view f7 15 inb_S4608x4096_S4608x256_0_3840 rfl) (load_scols arg8.view f8 ⟨2 * (15 : Fin 16).val, by decide⟩ inb_S1x4096_S1x128_0_3840 rfl) (load_scols arg8.view f8 ⟨2 * (15 : Fin 16).val + 1, by decide⟩ inb_S1x4096_S1x128_0_3968 rfl)
  have codes0 := codes_loads (load_rows arg2.view f2 0 inb_S256x4608_S32x4608_0_0 rfl) (View.readAt_full arg5.view f5 inb_S1x4608_S1x4608_0_0)
  have codes1 := codes_loads (load_rows arg2.view f2 1 inb_S256x4608_S32x4608_32_0 rfl) (View.readAt_full arg5.view f5 inb_S1x4608_S1x4608_0_0)
  have codes2 := codes_loads (load_rows arg2.view f2 2 inb_S256x4608_S32x4608_64_0 rfl) (View.readAt_full arg5.view f5 inb_S1x4608_S1x4608_0_0)
  have codes3 := codes_loads (load_rows arg2.view f2 3 inb_S256x4608_S32x4608_96_0 rfl) (View.readAt_full arg5.view f5 inb_S1x4608_S1x4608_0_0)
  have codes4 := codes_loads (load_rows arg2.view f2 4 inb_S256x4608_S32x4608_128_0 rfl) (View.readAt_full arg5.view f5 inb_S1x4608_S1x4608_0_0)
  have codes5 := codes_loads (load_rows arg2.view f2 5 inb_S256x4608_S32x4608_160_0 rfl) (View.readAt_full arg5.view f5 inb_S1x4608_S1x4608_0_0)
  have codes6 := codes_loads (load_rows arg2.view f2 6 inb_S256x4608_S32x4608_192_0 rfl) (View.readAt_full arg5.view f5 inb_S1x4608_S1x4608_0_0)
  have codes7 := codes_loads (load_rows arg2.view f2 7 inb_S256x4608_S32x4608_224_0 rfl) (View.readAt_full arg5.view f5 inb_S1x4608_S1x4608_0_0)
  have scale0 := scale_loads (load_rows arg2.view f2 0 inb_S256x4608_S32x4608_0_0 rfl) (View.readAt_full arg5.view f5 inb_S1x4608_S1x4608_0_0)
  have scale1 := scale_loads (load_rows arg2.view f2 1 inb_S256x4608_S32x4608_32_0 rfl) (View.readAt_full arg5.view f5 inb_S1x4608_S1x4608_0_0)
  have scale2 := scale_loads (load_rows arg2.view f2 2 inb_S256x4608_S32x4608_64_0 rfl) (View.readAt_full arg5.view f5 inb_S1x4608_S1x4608_0_0)
  have scale3 := scale_loads (load_rows arg2.view f2 3 inb_S256x4608_S32x4608_96_0 rfl) (View.readAt_full arg5.view f5 inb_S1x4608_S1x4608_0_0)
  have scale4 := scale_loads (load_rows arg2.view f2 4 inb_S256x4608_S32x4608_128_0 rfl) (View.readAt_full arg5.view f5 inb_S1x4608_S1x4608_0_0)
  have scale5 := scale_loads (load_rows arg2.view f2 5 inb_S256x4608_S32x4608_160_0 rfl) (View.readAt_full arg5.view f5 inb_S1x4608_S1x4608_0_0)
  have scale6 := scale_loads (load_rows arg2.view f2 6 inb_S256x4608_S32x4608_192_0 rfl) (View.readAt_full arg5.view f5 inb_S1x4608_S1x4608_0_0)
  have scale7 := scale_loads (load_rows arg2.view f2 7 inb_S256x4608_S32x4608_224_0 rfl) (View.readAt_full arg5.view f5 inb_S1x4608_S1x4608_0_0)
  have cos0 := cos_loads (load_rows arg4.view f4 0 inb_S256x1_S32x1_0_0 rfl) (View.readAt_full arg6.view f6 inb_S1x128_S1x128_0_0)
  have cos1 := cos_loads (load_rows arg4.view f4 1 inb_S256x1_S32x1_32_0 rfl) (View.readAt_full arg6.view f6 inb_S1x128_S1x128_0_0)
  have cos2 := cos_loads (load_rows arg4.view f4 2 inb_S256x1_S32x1_64_0 rfl) (View.readAt_full arg6.view f6 inb_S1x128_S1x128_0_0)
  have cos3 := cos_loads (load_rows arg4.view f4 3 inb_S256x1_S32x1_96_0 rfl) (View.readAt_full arg6.view f6 inb_S1x128_S1x128_0_0)
  have cos4 := cos_loads (load_rows arg4.view f4 4 inb_S256x1_S32x1_128_0 rfl) (View.readAt_full arg6.view f6 inb_S1x128_S1x128_0_0)
  have cos5 := cos_loads (load_rows arg4.view f4 5 inb_S256x1_S32x1_160_0 rfl) (View.readAt_full arg6.view f6 inb_S1x128_S1x128_0_0)
  have cos6 := cos_loads (load_rows arg4.view f4 6 inb_S256x1_S32x1_192_0 rfl) (View.readAt_full arg6.view f6 inb_S1x128_S1x128_0_0)
  have cos7 := cos_loads (load_rows arg4.view f4 7 inb_S256x1_S32x1_224_0 rfl) (View.readAt_full arg6.view f6 inb_S1x128_S1x128_0_0)
  have sin0 := sin_loads (load_rows arg4.view f4 0 inb_S256x1_S32x1_0_0 rfl) (View.readAt_full arg6.view f6 inb_S1x128_S1x128_0_0)
  have sin1 := sin_loads (load_rows arg4.view f4 1 inb_S256x1_S32x1_32_0 rfl) (View.readAt_full arg6.view f6 inb_S1x128_S1x128_0_0)
  have sin2 := sin_loads (load_rows arg4.view f4 2 inb_S256x1_S32x1_64_0 rfl) (View.readAt_full arg6.view f6 inb_S1x128_S1x128_0_0)
  have sin3 := sin_loads (load_rows arg4.view f4 3 inb_S256x1_S32x1_96_0 rfl) (View.readAt_full arg6.view f6 inb_S1x128_S1x128_0_0)
  have sin4 := sin_loads (load_rows arg4.view f4 4 inb_S256x1_S32x1_128_0 rfl) (View.readAt_full arg6.view f6 inb_S1x128_S1x128_0_0)
  have sin5 := sin_loads (load_rows arg4.view f4 5 inb_S256x1_S32x1_160_0 rfl) (View.readAt_full arg6.view f6 inb_S1x128_S1x128_0_0)
  have sin6 := sin_loads (load_rows arg4.view f4 6 inb_S256x1_S32x1_192_0 rfl) (View.readAt_full arg6.view f6 inb_S1x128_S1x128_0_0)
  have sin7 := sin_loads (load_rows arg4.view f4 7 inb_S256x1_S32x1_224_0 rfl) (View.readAt_full arg6.view f6 inb_S1x128_S1x128_0_0)
  sl_exec (disch := sl_exact hc)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro
    exact read_oct _ _ _ _ _ _ _ _ _ _ _ _ _ _ _ _ _ _ _ _ _ _ _ _ _ _ _ T0 T1 T2 T3 T4 T5 T6 T7
  isplitl [H10]
  · iexists _; isplitr; swap; · iexact H10
    ipureintro
    exact read_quad _ _ _ _ _ _ _ _ _ _ _ _ _ _ _ T8 T9 T10 T11
  isplitl [H11]
  · iexists _; isplitr; swap; · iexact H11
    ipureintro
    exact read_quad _ _ _ _ _ _ _ _ _ _ _ _ _ _ _ T12 T13 T14 T15
  isplitl [H12]
  · iexists _; isplitr; swap; · iexact H12
    ipureintro
    exact read_whole _ _ _ _
  isplitl [H13]
  · iexists _; isplitr; swap; · iexact H13
    ipureintro
    exact read_whole _ _ _ _
  isplitl [H14]
  · iexists _; isplitr; swap; · iexact H14
    ipureintro
    exact read_slot _ _ _ _ _ _ _ _ _ _ _ _ _ _ _ _ _ _ _ _ (k0_off7_eq i) (k0_off9_eq i) (k0_off11_eq i) (k0_off13_eq i) (k0_off15_eq i) (k0_off17_eq i) (k0_off19_eq i) (k0_off21_eq i) codes0 codes1 codes2 codes3 codes4 codes5 codes6 codes7
  isplitl [H15]
  · iexists _; isplitr; swap; · iexact H15
    ipureintro
    exact read_slot _ _ _ _ _ _ _ _ _ _ _ _ _ _ _ _ _ _ _ _ (k0_off8_eq i) (k0_off10_eq i) (k0_off12_eq i) (k0_off14_eq i) (k0_off16_eq i) (k0_off18_eq i) (k0_off20_eq i) (k0_off22_eq i) scale0 scale1 scale2 scale3 scale4 scale5 scale6 scale7
  isplitl [H16]
  · iexists _; isplitr; swap; · iexact H16
    ipureintro
    exact read_slot _ _ _ _ _ _ _ _ _ _ _ _ _ _ _ _ _ _ _ _ (k0_off8_eq i) (k0_off10_eq i) (k0_off12_eq i) (k0_off14_eq i) (k0_off16_eq i) (k0_off18_eq i) (k0_off20_eq i) (k0_off22_eq i) cos0 cos1 cos2 cos3 cos4 cos5 cos6 cos7
  iexists _; isplitr; swap; · iexact H17
  ipureintro
  exact read_slot _ _ _ _ _ _ _ _ _ _ _ _ _ _ _ _ _ _ _ _ (k0_off8_eq i) (k0_off10_eq i) (k0_off12_eq i) (k0_off14_eq i) (k0_off16_eq i) (k0_off18_eq i) (k0_off20_eq i) (k0_off22_eq i) sin0 sin1 sin2 sin3 sin4 sin5 sin6 sin7

end Cert.KernelIdeal.Val

end
-- ==== Proof.Step.lean ====
/- Hand-written, untrusted. What one grid point leaves, over the contents of its windows: the outputs are functions of the current
   block, and the other slot holds the next block's pieces. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.Pieces
public import proofs.«01_k».proof.Proof.BodyA
public import proofs.«01_k».proof.Proof.BodyB

@[expose] public section

set_option maxRecDepth 16384
set_option maxHeartbeats 4000000

noncomputable section

namespace Cert.KernelIdeal.Val

open Cert.KernelIdeal Cert.KernelIdeal.Gen Cert.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block of rotated queries of 256 tokens. -/
def qBlk (X : FVec F S256x4608 .bf16) (T : IVec S256x1 32) (G : FVec F S1x4608 .f32) (V : FVec F S1x128 .f32) (W : FVec F S4608x4096 .fp8e4m3)
    (S : FVec F S1x4096 .f32) : FVec F S4096x128 .bf16 :=
  unflat (M := 4096) (R := 2048) rfl (octG fun n : Fin 8 => qTile (codesB X G) (scaleB X G) (cosB T V) (sinB T V) W S ⟨n.val, by omega⟩)

/-- The block of rotated keys. -/
def kBlk (X : FVec F S256x4608 .bf16) (T : IVec S256x1 32) (G : FVec F S1x4608 .f32) (V : FVec F S1x128 .f32) (W : FVec F S4608x4096 .fp8e4m3)
    (S : FVec F S1x4096 .f32) : FVec F S2048x128 .bf16 :=
  unflat (M := 2048) (R := 1024) rfl (quadG fun n : Fin 4 => qTile (codesB X G) (scaleB X G) (cosB T V) (sinB T V) W S ⟨n.val + 8, by omega⟩)

/-- The block of values. -/
def vBlk (X : FVec F S256x4608 .bf16) (G : FVec F S1x4608 .f32) (W : FVec F S4608x4096 .fp8e4m3) (S : FVec F S1x4096 .f32) :
    FVec F S2048x128 .bf16 :=
  unflat (M := 2048) (R := 1024) rfl (quadG fun n : Fin 4 => vTile (codesB X G) (scaleB X G) W S ⟨n.val + 12, by omega⟩)

/-- The block of codes. -/
def cBlk (X : FVec F S256x4608 .bf16) (G : FVec F S1x4608 .f32) : FVec F S256x4608 .fp8e4m3 := k0_pay10 (slab (codesB X G))

/-- The block of scales. -/
def sBlk (X : FVec F S256x4608 .bf16) (G : FVec F S1x4608 .f32) : FVec F S256x1 .f32 := k0_pay135 (k0_pay11 (slab (scaleB X G)))

/-- One grid point: from the current block's pieces in the current slot (or, at the first point, from nothing) to the outputs of the current
    block, the next block's pieces in the other slot. -/
theorem step (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S256x1 .i32) (harg3 : arg3.IsWhole) (arg4 : Memref sig .tc .vmem S256x1 .i32) (harg4 : arg4.IsWhole) (arg5 : Memref sig .tc .vmem S1x4608 .f32) (harg5 : arg5.IsWhole) (arg6 : Memref sig .tc .vmem S1x128 .f32) (harg6 : arg6.IsWhole) (arg7 : Memref sig .tc .vmem S4608x4096 .fp8e4m3) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S256x4608 .fp8e4m3) (harg12 : arg12.IsWhole) (arg13 : Memref sig .tc .vmem S256x1 .f32) (harg13 : arg13.IsWhole) (arg14 : Memref sig .tc .vmem S2x256x4608 .fp8e4m3) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (x1 : S256x4608.Idx → Elt F .bf16) (x2 : S256x4608.Idx → Elt F .bf16) (x3 : S256x1.Idx → Elt F .i32) (x4 : S256x1.Idx → Elt F .i32) (x5 : S1x4608.Idx → Elt F .f32) (x6 : S1x128.Idx → Elt F .f32) (x7 : S4608x4096.Idx → Elt F .fp8e4m3) (x8 : S1x4096.Idx → Elt F .f32) (xc : S256x4608.Idx → Elt F .bf16) (tc : S256x1.Idx → Elt F .i32)
    (hA : k0_cond1 i = 1#1 → xc = x1 ∧ tc = x3 ∧ (i 0).val % 2 = 0) (d14 : S2x256x4608.Idx → Elt F .fp8e4m3) (d15 : S2x256x128.Idx → Elt F .f32) (d16 : S2x256x128.Idx → Elt F .f32) (d17 : S2x256x128.Idx → Elt F .f32) (h14 : ¬ k0_cond1 i = 1#1 → ∀ y, (y 0).val = (i 0).val % 2 → d14 y = slotG (codesB xc x5) y) (h15 : ¬ k0_cond1 i = 1#1 → ∀ y, (y 0).val = (i 0).val % 2 → d15 y = slotG (scaleB xc x5) y) (h16 : ¬ k0_cond1 i = 1#1 → ∀ y, (y 0).val = (i 0).val % 2 → d16 y = slotG (cosB tc x6) y) (h17 : ¬ k0_cond1 i = 1#1 → ∀ y, (y 0).val = (i 0).val % 2 → d17 y = slotG (sinB tc x6) y) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare d14 ∗ owns (c : Thread nD τ) arg15 fullShare d15 ∗ owns (c : Thread nD τ) arg16 fullShare d16 ∗ owns (c : Thread nD τ) arg17 fullShare d17 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qBlk xc tc x5 x6 x7 x8) ∗ owns (c : Thread nD τ) arg10 fullShare (kBlk xc tc x5 x6 x7 x8) ∗ owns (c : Thread nD τ) arg11 fullShare (vBlk xc x5 x7 x8) ∗ owns (c : Thread nD τ) arg12 fullShare (cBlk xc x5) ∗ owns (c : Thread nD τ) arg13 fullShare (sBlk xc x5) ∗ (∃ d, ⌜∀ y, (y 0).val = 1 - (i 0).val % 2 → d y = slotG (codesB x2 x5) y⌝ ∗ owns (c : Thread nD τ) arg14 fullShare d) ∗ (∃ d, ⌜∀ y, (y 0).val = 1 - (i 0).val % 2 → d y = slotG (scaleB x2 x5) y⌝ ∗ owns (c : Thread nD τ) arg15 fullShare d) ∗ (∃ d, ⌜∀ y, (y 0).val = 1 - (i 0).val % 2 → d y = slotG (cosB x4 x6) y⌝ ∗ owns (c : Thread nD τ) arg16 fullShare d) ∗ (∃ d, ⌜∀ y, (y 0).val = 1 - (i 0).val % 2 → d y = slotG (sinB x4 x6) y⌝ ∗ owns (c : Thread nD τ) arg17 fullShare d)) -∗ K ⟨⟩))
      ⊢ wp frame (wpE (defs₀ (F := F)) Variants.none (c : Thread nD τ) none) Set.univ (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have e9 : (arg9.reshape S2048x2x128 reshapes_S4096x128_S2048x2x128.1 reshapes_S4096x128_S2048x2x128.2 harg9.contiguous).view.set = arg9.view.set := View.set_reshape _ _
  have e10 : (arg10.reshape S1024x2x128 reshapes_S2048x128_S1024x2x128.1 reshapes_S2048x128_S1024x2x128.2 harg10.contiguous).view.set = arg10.view.set := View.set_reshape _ _
  have e11 : (arg11.reshape S1024x2x128 reshapes_S2048x128_S1024x2x128.1 reshapes_S2048x128_S1024x2x128.2 harg11.contiguous).view.set = arg11.view.set := View.set_reshape _ _
  unfold owns
  iintro ⟨⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%d9, %f9, -, H9⟩, ⟨%d10, %f10, -, H10⟩, ⟨%d11, %f11, -, H11⟩, ⟨%d12, %f12, -, H12⟩, ⟨%d13, %f13, -, H13⟩, ⟨%f14, %g14, H14⟩, ⟨%f15, %g15, H15⟩, ⟨%f16, %g16, H16⟩, ⟨%f17, %g17, H17⟩, Hk⟩
  subst g1 g2 g3 g4 g5 g6 g7 g8 g14 g15 g16 g17
  by_cases hc : k0_cond1 i = 1#1
  · obtain ⟨rfl, rfl, hi⟩ := hA hc
    iapply (kernelRunA c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17  hi K)
    rw [e9, e10, e11]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H1, H2, H3, H4, H5, H6, H7, H8, ⟨%g9, %q9, H9⟩, ⟨%g10, %q10, H10⟩, ⟨%g11, %q11, H11⟩, ⟨%g12, %q12, H12⟩, ⟨%g13, %q13, H13⟩, ⟨%g14, %q14, H14⟩, ⟨%g15, %q15, H15⟩, ⟨%g16, %q16, H16⟩, ⟨%g17, %q17, H17⟩⟩
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact read_reshape (M := 4096) (R := 2048) rfl _ _ _ q9
    isplitl [H10]
    · iexists _; isplitr; swap; · iexact H10
      ipureintro; exact read_reshape (M := 2048) (R := 1024) rfl _ _ _ q10
    isplitl [H11]
    · iexists _; isplitr; swap; · iexact H11
      ipureintro; exact read_reshape (M := 2048) (R := 1024) rfl _ _ _ q11
    isplitl [H12]
    · iexists _; isplitr; swap; · iexact H12
      ipureintro; exact q12
    isplitl [H13]
    · iexists _; isplitr; swap; · iexact H13
      ipureintro; exact q13
    isplitl [H14]
    · iexists _; isplitr
      · ipureintro; exact q14
      · iexists _; isplitr; swap; · iexact H14
        ipureintro; rfl
    isplitl [H15]
    · iexists _; isplitr
      · ipureintro; exact q15
      · iexists _; isplitr; swap; · iexact H15
        ipureintro; rfl
    isplitl [H16]
    · iexists _; isplitr
      · ipureintro; exact q16
      · iexists _; isplitr; swap; · iexact H16
        ipureintro; rfl
    · iexists _; isplitr
      · ipureintro; exact q17
      · iexists _; isplitr; swap; · iexact H17
        ipureintro; rfl
  · skip
    iapply (kernelRunB c i hc arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 (codesB xc (arg5.view.read (Elt F) f5)) (scaleB xc (arg5.view.read (Elt F) f5)) (cosB tc (arg6.view.read (Elt F) f6)) (sinB tc (arg6.view.read (Elt F) f6)) (h14 hc) (h15 hc) (h16 hc) (h17 hc)  K)
    rw [e9, e10, e11]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H1, H2, H3, H4, H5, H6, H7, H8, ⟨%g9, %q9, H9⟩, ⟨%g10, %q10, H10⟩, ⟨%g11, %q11, H11⟩, ⟨%g12, %q12, H12⟩, ⟨%g13, %q13, H13⟩, ⟨%g14, %q14, H14⟩, ⟨%g15, %q15, H15⟩, ⟨%g16, %q16, H16⟩, ⟨%g17, %q17, H17⟩⟩
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact read_reshape (M := 4096) (R := 2048) rfl _ _ _ q9
    isplitl [H10]
    · iexists _; isplitr; swap; · iexact H10
      ipureintro; exact read_reshape (M := 2048) (R := 1024) rfl _ _ _ q10
    isplitl [H11]
    · iexists _; isplitr; swap; · iexact H11
      ipureintro; exact read_reshape (M := 2048) (R := 1024) rfl _ _ _ q11
    isplitl [H12]
    · iexists _; isplitr; swap; · iexact H12
      ipureintro; exact q12
    isplitl [H13]
    · iexists _; isplitr; swap; · iexact H13
      ipureintro; exact q13
    isplitl [H14]
    · iexists _; isplitr
      · ipureintro; exact q14
      · iexists _; isplitr; swap; · iexact H14
        ipureintro; rfl
    isplitl [H15]
    · iexists _; isplitr
      · ipureintro; exact q15
      · iexists _; isplitr; swap; · iexact H15
        ipureintro; rfl
    isplitl [H16]
    · iexists _; isplitr
      · ipureintro; exact q16
      · iexists _; isplitr; swap; · iexact H16
        ipureintro; rfl
    · iexists _; isplitr
      · ipureintro; exact q17
      · iexists _; isplitr; swap; · iexact H17
        ipureintro; rfl

end Cert.KernelIdeal.Val

end
-- ==== Proof.Run.lean ====
/- Hand-written, untrusted. The whole run: the scratch slots tracked from point to point, and what each result array holds at the end. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.Pieces
public import proofs.«01_k».proof.Proof.Step
public import Idealize.ShloMosaic.Lib.Pipeline.ValueKit

@[expose] public section

set_option maxRecDepth 16384
set_option maxHeartbeats 4000000

noncomputable section

namespace Cert.KernelIdeal.Val

open Cert.KernelIdeal Cert.KernelIdeal.Gen Cert.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The arrays the windows read -/

/-- The tokens' rows, as the kernel's call finds them. -/
def Xa (c : Dev nD) : FVec F S8192x4608 .bf16 := V m c main_v12

/-- The positions, as the kernel's call finds them. -/
def Ta (c : Dev nD) : IVec S8192x1 32 := V m c main_v13

/-- The gain, as the kernel's call finds them. -/
def Ga (c : Dev nD) : FVec F S1x4608 .f32 := V m c main_v14

/-- The inverse frequencies, twice, as the kernel's call finds them. -/
def Va (c : Dev nD) : FVec F S1x128 .f32 := V m c main_v11

/-- The weight, as the kernel's call finds them. -/
def Wa (c : Dev nD) : FVec F S4608x4096 .fp8e4m3 := V m c main_arg3

/-- The weight's column scales, as the kernel's call finds them. -/
def Sa (c : Dev nD) : FVec F S1x4096 .f32 := V m c main_v15

theorem index0_0 : ∀ t : Fin cfg0.N, win0_0.index t = ![0, 0] := (by decide +kernel : ∀ t : Fin grid0.N, win0_0.index t = ![0, 0])
/-- What window 0 stages at point `t`. -/
theorem iblk0 (c : Dev nD) (t : Fin cfg0.N) : iblk m c 0 t = blkOf (Xa m c) 0 := by
  funext y
  refine congrArg (Xa m c) ?_
  blk_ext [index0_0, blkOf]

theorem index0_1 : ∀ t : Fin cfg0.N, win0_1.index t = ![min (t.val + 1) 31, 0] := (by decide +kernel : ∀ t : Fin grid0.N, win0_1.index t = ![min (t.val + 1) 31, 0])
/-- What window 1 stages at point `t`. -/
theorem iblk1 (c : Dev nD) (t : Fin cfg0.N) : iblk m c 1 t = blkOf (Xa m c) (min (t.val + 1) 31) := by
  funext y
  refine congrArg (Xa m c) ?_
  blk_ext [index0_1, blkOf]

theorem index0_2 : ∀ t : Fin cfg0.N, win0_2.index t = ![0, 0] := (by decide +kernel : ∀ t : Fin grid0.N, win0_2.index t = ![0, 0])
/-- What window 2 stages at point `t`. -/
theorem iblk2 (c : Dev nD) (t : Fin cfg0.N) : iblk m c 2 t = blkOf (Ta m c) 0 := by
  funext y
  refine congrArg (Ta m c) ?_
  blk_ext [index0_2, blkOf]

theorem index0_3 : ∀ t : Fin cfg0.N, win0_3.index t = ![min (t.val + 1) 31, 0] := (by decide +kernel : ∀ t : Fin grid0.N, win0_3.index t = ![min (t.val + 1) 31, 0])
/-- What window 3 stages at point `t`. -/
theorem iblk3 (c : Dev nD) (t : Fin cfg0.N) : iblk m c 3 t = blkOf (Ta m c) (min (t.val + 1) 31) := by
  funext y
  refine congrArg (Ta m c) ?_
  blk_ext [index0_3, blkOf]

theorem index0_4 : ∀ t : Fin cfg0.N, win0_4.index t = ![0, 0] := (by decide +kernel : ∀ t : Fin grid0.N, win0_4.index t = ![0, 0])
/-- What window 4 stages at point `t`. -/
theorem iblk4 (c : Dev nD) (t : Fin cfg0.N) : iblk m c 4 t = Ga m c := by
  funext y
  refine congrArg (Ga m c) ?_
  blk_ext [index0_4, blkOf]

theorem index0_5 : ∀ t : Fin cfg0.N, win0_5.index t = ![0, 0] := (by decide +kernel : ∀ t : Fin grid0.N, win0_5.index t = ![0, 0])
/-- What window 5 stages at point `t`. -/
theorem iblk5 (c : Dev nD) (t : Fin cfg0.N) : iblk m c 5 t = Va m c := by
  funext y
  refine congrArg (Va m c) ?_
  blk_ext [index0_5, blkOf]

theorem index0_6 : ∀ t : Fin cfg0.N, win0_6.index t = ![0, 0] := (by decide +kernel : ∀ t : Fin grid0.N, win0_6.index t = ![0, 0])
/-- What window 6 stages at point `t`. -/
theorem iblk6 (c : Dev nD) (t : Fin cfg0.N) : iblk m c 6 t = Wa m c := by
  funext y
  refine congrArg (Wa m c) ?_
  blk_ext [index0_6, blkOf]

theorem index0_7 : ∀ t : Fin cfg0.N, win0_7.index t = ![0, 0] := (by decide +kernel : ∀ t : Fin grid0.N, win0_7.index t = ![0, 0])
/-- What window 7 stages at point `t`. -/
theorem iblk7 (c : Dev nD) (t : Fin cfg0.N) : iblk m c 7 t = Sa m c := by
  funext y
  refine congrArg (Sa m c) ?_
  blk_ext [index0_7, blkOf]

/-! ## The proof data -/

/-- The scratches before point `n`: after the first point, the slot of `n` holds the pieces of block `n`. -/
def inv (c : Dev nD) (n : ℕ) : sProp 𝕄 :=
  iprop(((∃ d : S2x256x4608.Idx → Elt F .fp8e4m3, ⌜n ≠ 0 → n < 32 → ∀ y, (y 0).val = n % 2 → d y = slotG (codesB (blkOf (Xa m c) n) (Ga m c)) y⌝ ∗ owns (c : Thread nD τ) (Memref.whole cc0_scratch0) fullShare d) ∗ (∃ d : S2x256x128.Idx → Elt F .f32, ⌜n ≠ 0 → n < 32 → ∀ y, (y 0).val = n % 2 → d y = slotG (scaleB (blkOf (Xa m c) n) (Ga m c)) y⌝ ∗ owns (c : Thread nD τ) (Memref.whole cc0_scratch1) fullShare d) ∗ (∃ d : S2x256x128.Idx → Elt F .f32, ⌜n ≠ 0 → n < 32 → ∀ y, (y 0).val = n % 2 → d y = slotG (cosB (blkOf (Ta m c) n) (Va m c)) y⌝ ∗ owns (c : Thread nD τ) (Memref.whole cc0_scratch2) fullShare d) ∗ (∃ d : S2x256x128.Idx → Elt F .f32, ⌜n ≠ 0 → n < 32 → ∀ y, (y 0).val = n % 2 → d y = slotG (sinB (blkOf (Ta m c) n) (Va m c)) y⌝ ∗ owns (c : Thread nD τ) (Memref.whole cc0_scratch3) fullShare d)) ∗ ∃ r, prngReg c r)

/-- Each input leaves its block in place; each output is a function of the point's block. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t | 6 => iblk m c 6 t | 7 => iblk m c 7 t
    | 8 => qBlk (blkOf (Xa m c) t.val) (blkOf (Ta m c) t.val) (Ga m c) (Va m c) (Wa m c) (Sa m c) | 9 => kBlk (blkOf (Xa m c) t.val) (blkOf (Ta m c) t.val) (Ga m c) (Va m c) (Wa m c) (Sa m c) | 10 => vBlk (blkOf (Xa m c) t.val) (Ga m c) (Wa m c) (Sa m c) | 11 => cBlk (blkOf (Xa m c) t.val) (Ga m c) | 12 => sBlk (blkOf (Xa m c) t.val) (Ga m c)
  Φ t := inv m c t.val
  q w := Pipeline.shareOf spec0 w
  owed _ := 0

theorem A_eq (c : Dev nD) (w : Fin cfg0.W) : (dats m 0 c).A w = V m c (Pipeline.arrRef spec0 w) := by dsimp only [dats]

/-- Window 0's staging memref at point `t`, as the pipeline passes it, and that it is whole. -/
abbrev ms0_0 (t : Fin cfg0.N) : Memref sig .tc .vmem S256x4608 .bf16 := win0_0.stage (cfg0.slots t 0)
abbrev hs0_0 (t : Fin cfg0.N) : (ms0_0 t).IsWhole := hstage0_0 ((cfg0.slots t 0).cast nbuf0_0)
/-- Window 1's staging memref at point `t`, as the pipeline passes it, and that it is whole. -/
abbrev ms0_1 (t : Fin cfg0.N) : Memref sig .tc .vmem S256x4608 .bf16 := win0_1.stage (cfg0.slots t 1)
abbrev hs0_1 (t : Fin cfg0.N) : (ms0_1 t).IsWhole := hstage0_1 ((cfg0.slots t 1).cast nbuf0_1)
/-- Window 2's staging memref at point `t`, as the pipeline passes it, and that it is whole. -/
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
/-- Window 3's staging memref at point `t`, as the pipeline passes it, and that it is whole. -/
abbrev ms0_3 (t : Fin cfg0.N) : Memref sig .tc .vmem S256x1 .i32 := win0_3.stage (cfg0.slots t 3)
abbrev hs0_3 (t : Fin cfg0.N) : (ms0_3 t).IsWhole := hstage0_3 ((cfg0.slots t 3).cast nbuf0_3)
/-- Window 4's staging memref at point `t`, as the pipeline passes it, and that it is whole. -/
abbrev ms0_4 (t : Fin cfg0.N) : Memref sig .tc .vmem S1x4608 .f32 := win0_4.stage (cfg0.slots t 4)
abbrev hs0_4 (t : Fin cfg0.N) : (ms0_4 t).IsWhole := hstage0_4 ((cfg0.slots t 4).cast nbuf0_4)
/-- Window 5's staging memref at point `t`, as the pipeline passes it, and that it is whole. -/
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- Window 6's staging memref at point `t`, as the pipeline passes it, and that it is whole. -/
abbrev ms0_6 (t : Fin cfg0.N) : Memref sig .tc .vmem S4608x4096 .fp8e4m3 := win0_6.stage (cfg0.slots t 6)
abbrev hs0_6 (t : Fin cfg0.N) : (ms0_6 t).IsWhole := hstage0_6 ((cfg0.slots t 6).cast nbuf0_6)
/-- Window 7's staging memref at point `t`, as the pipeline passes it, and that it is whole. -/
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
/-- Window 8's staging memref at point `t`, as the pipeline passes it, and that it is whole. -/
abbrev ms0_8 (t : Fin cfg0.N) : Memref sig .tc .vmem S4096x128 .bf16 := win0_8.stage (cfg0.slots t 8)
abbrev hs0_8 (t : Fin cfg0.N) : (ms0_8 t).IsWhole := hstage0_8 ((cfg0.slots t 8).cast nbuf0_8)
/-- Window 9's staging memref at point `t`, as the pipeline passes it, and that it is whole. -/
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
/-- Window 10's staging memref at point `t`, as the pipeline passes it, and that it is whole. -/
abbrev ms0_10 (t : Fin cfg0.N) : Memref sig .tc .vmem S2048x128 .bf16 := win0_10.stage (cfg0.slots t 10)
abbrev hs0_10 (t : Fin cfg0.N) : (ms0_10 t).IsWhole := hstage0_10 ((cfg0.slots t 10).cast nbuf0_10)
/-- Window 11's staging memref at point `t`, as the pipeline passes it, and that it is whole. -/
abbrev ms0_11 (t : Fin cfg0.N) : Memref sig .tc .vmem S256x4608 .fp8e4m3 := win0_11.stage (cfg0.slots t 11)
abbrev hs0_11 (t : Fin cfg0.N) : (ms0_11 t).IsWhole := hstage0_11 ((cfg0.slots t 11).cast nbuf0_11)
/-- Window 12's staging memref at point `t`, as the pipeline passes it, and that it is whole. -/
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)))

/-- What the body returns at point `t`. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t))

theorem coord_val : ∀ t : Fin cfg0.N, ((cfg0.grid.coords t) 0).val = t.val := (by decide +kernel : ∀ t : Fin grid0.N, ((grid0.coords t) 0).val = t.val)

theorem cond_iff : ∀ t : Fin cfg0.N, k0_cond1 (cfg0.grid.coords t) = 1#1 ↔ t.val = 0 := (by decide +kernel : ∀ t : Fin grid0.N, k0_cond1 (grid0.coords t) = 1#1 ↔ t.val = 0)

/-- The body at the point, by `step`. -/
theorem sound_body (c : Dev nD) (t : Fin cfg0.N) :
    bodyPre m c t ⊢ wp frame (wpE (defs₀ (F := F)) Variants.none c none) Set.univ (bodyAt0 t) (fun _ => bodyPost m c t) := by
  have ht : t.val < 32 := t.isLt
  unfold bodyPre bodyPost bodyAt0
  rw [show (dats m 0 c).Φ t.succ = inv m c (t.val + 1) from rfl,
    show (dats m 0 c).owesAt () t.succ = (dats m 0 c).owesAt () t.castSucc from rfl,
    show (dats m 0 c).Φ t.castSucc = inv m c t.val from rfl]
  unfold inv
  iintro ⟨⟨⟨⟨%e0, %p0, HS0⟩, ⟨%e1, %p1, HS1⟩, ⟨%e2, %p2, HS2⟩, ⟨%e3, %p3, HS3⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (step c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (blkOf (Xa m c) t.val) (blkOf (Ta m c) t.val)
    (fun hc => ⟨by rw [iblk0, (cond_iff t).mp hc], by rw [iblk2, (cond_iff t).mp hc], by rw [coord_val, (cond_iff t).mp hc]⟩) e0 e1 e2 e3
    (fun hc y hy => by rw [iblk4]; exact p0 (fun h => hc ((cond_iff t).mpr h)) ht y (by rw [← coord_val]; exact hy)) (fun hc y hy => by rw [iblk4]; exact p1 (fun h => hc ((cond_iff t).mpr h)) ht y (by rw [← coord_val]; exact hy)) (fun hc y hy => by rw [iblk5]; exact p2 (fun h => hc ((cond_iff t).mpr h)) ht y (by rw [← coord_val]; exact hy)) (fun hc y hy => by rw [iblk5]; exact p3 (fun h => hc ((cond_iff t).mpr h)) ht y (by rw [← coord_val]; exact hy)) _)
  rw [before0_0_of m (dats m 0 c) (A_eq m c 0) (fun _ => by dsimp only [dats]) t d0]
  rw [before0_1_of m (dats m 0 c) (A_eq m c 1) (fun _ => by dsimp only [dats]) t d1]
  rw [before0_2_of m (dats m 0 c) (A_eq m c 2) (fun _ => by dsimp only [dats]) t d2]
  rw [before0_3_of m (dats m 0 c) (A_eq m c 3) (fun _ => by dsimp only [dats]) t d3]
  rw [before0_4_of m (dats m 0 c) (A_eq m c 4) (fun _ => by dsimp only [dats]) t d4]
  rw [before0_5_of m (dats m 0 c) (A_eq m c 5) (fun _ => by dsimp only [dats]) t d5]
  rw [before0_6_of m (dats m 0 c) (A_eq m c 6) (fun _ => by dsimp only [dats]) t d6]
  rw [before0_7_of m (dats m 0 c) (A_eq m c 7) (fun _ => by dsimp only [dats]) t d7]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, H12, ⟨%u0, %v0, HS0⟩, ⟨%u1, %v1, HS1⟩, ⟨%u2, %v2, HS2⟩, ⟨%u3, %v3, HS3⟩⟩
  isplitl [HS0 HS1 HS2 HS3 Hg]
  · isplitl [HS0 HS1 HS2 HS3]
    · isplitl [HS0]
      · iexists _; isplitr; swap; · iexact HS0
        ipureintro; intro _ hn y hy
        rw [v0 y (by rw [coord_val]; omega), iblk1, iblk4, show min (t.val + 1) 31 = t.val + 1 by omega]
      isplitl [HS1]
      · iexists _; isplitr; swap; · iexact HS1
        ipureintro; intro _ hn y hy
        rw [v1 y (by rw [coord_val]; omega), iblk1, iblk4, show min (t.val + 1) 31 = t.val + 1 by omega]
      isplitl [HS2]
      · iexists _; isplitr; swap; · iexact HS2
        ipureintro; intro _ hn y hy
        rw [v2 y (by rw [coord_val]; omega), iblk3, iblk5, show min (t.val + 1) 31 = t.val + 1 by omega]
      iexists _; isplitr; swap; · iexact HS3
      ipureintro; intro _ hn y hy
      rw [v3 y (by rw [coord_val]; omega), iblk3, iblk5, show min (t.val + 1) 31 = t.val + 1 by omega]
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · rw [iblk4, iblk5, iblk6, iblk7]; iexact H8
  isplitl [H9]; · rw [iblk4, iblk5, iblk6, iblk7]; iexact H9
  isplitl [H10]; · rw [iblk4, iblk6, iblk7]; iexact H10
  isplitl [H11]; · rw [iblk4]; iexact H11
  rw [iblk4]; iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratches hold anything. -/
theorem inv_in (c : Dev nD) : Pipeline.ΦA spec0 c ⊢ inv (F := F) m c 0 := by
  unfold Pipeline.ΦA inv
  rw [scopedRest0_eq]
  simp only [owns_whole]
  iintro ⟨⟨⟨%f0, H0⟩, ⟨%f1, H1⟩, ⟨%f2, H2⟩, ⟨%f3, H3⟩⟩, Hg⟩
  isplitl [H0 H1 H2 H3]
  · isplitl [H0]; · iexists f0; isplitr; swap; · iexact H0
                    ipureintro; intro h; exact absurd rfl h
    isplitl [H1]; · iexists f1; isplitr; swap; · iexact H1
                    ipureintro; intro h; exact absurd rfl h
    isplitl [H2]; · iexists f2; isplitr; swap; · iexact H2
                    ipureintro; intro h; exact absurd rfl h
    iexists f3; isplitr; swap; · iexact H3
    ipureintro; intro h; exact absurd rfl h
  iexact Hg

/-- At any point the scratches may be forgotten. -/
theorem inv_out (c : Dev nD) (n : ℕ) : inv (F := F) m c n ⊢ Pipeline.ΦA spec0 c := by
  unfold Pipeline.ΦA inv
  rw [scopedRest0_eq]
  simp only [owns_whole]
  iintro ⟨⟨⟨%f0, -, H0⟩, ⟨%f1, -, H1⟩, ⟨%f2, -, H2⟩, ⟨%f3, -, H3⟩⟩, Hg⟩
  isplitl [H0 H1 H2 H3]
  · isplitl [H0]; · iexists f0; iexact H0
    isplitl [H1]; · iexists f1; iexact H1
    isplitl [H2]; · iexists f2; iexact H2
    iexists f3; iexact H3
  iexact Hg

set_option backward.isDefEq.respectTransparency.types false in
/-- Every run of the program ends, with the result arrays the proof data's. -/
theorem run_main : θ_run defs (onTc (τ := τ) (main (F := F))) (s₀ m ρ) (Pipeline.FramePost cfgs (dats m) 0 (V m)) :=
  Pipeline.θ_run_frame_track_shared cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hin := fun c => inv_in m c) (hout := fun c => inv_out m c _)

/-! ## The result arrays -/

/-- Result `q`: row `r` is row `r % 4096` of block `r / 4096`. -/
def qArr (c : Dev nD) : S131072x128.Idx → Elt F .bf16 := fun z => qBlk (blkOf (Xa m c) ((z 0).val / 4096)) (blkOf (Ta m c) ((z 0).val / 4096)) (Ga m c) (Va m c) (Wa m c) (Sa m c) (ix2 (⟨(z 0).val % 4096, by omega⟩ : Fin 4096) (z 1))

theorem index0_8 : ∀ t : Fin cfg0.N, win0_8.index t = ![t.val, 0] := (by decide +kernel : ∀ t : Fin grid0.N, win0_8.index t = ![t.val, 0])

theorem final_q (c : Dev nD) : (dats m 0 c).arrAt 8 cfg0.N = qArr m c := by
  refine (dats m 0 c).arrAt_eq_of_covers 8 _ (by decide +kernel) fun t hf y => ?_
  have e0 : (((win0_8.blk t).view.emb y (0 : Fin 2)).val) = 4096 * t.val + (y (0 : Fin 2)).val := by blk_simp [index0_8]; simp; omega
  have e1 : (((win0_8.blk t).view.emb y (1 : Fin 2)).val) = (y (1 : Fin 2)).val := by blk_simp [index0_8]
  have hy : (y (0 : Fin 2)).val < 4096 := (y 0).isLt
  have h0 : (((win0_8.blk t).view.emb y (0 : Fin 2)).val) / 4096 = t.val := by rw [e0]; omega
  show (dats m 0 c).after 8 t y = qArr m c ((win0_8.blk t).view.emb y)
  unfold qArr
  rw [h0]
  refine congrArg ((dats m 0 c).after 8 t) (idx2_ext ?_ ?_)
  · show (y (0 : Fin 2)).val = (((win0_8.blk t).view.emb y (0 : Fin 2)).val) % 4096
    rw [e0]; omega
  · exact e1.symm

/-- Result `k`: row `r` is row `r % 2048` of block `r / 2048`. -/
def kArr (c : Dev nD) : S65536x128.Idx → Elt F .bf16 := fun z => kBlk (blkOf (Xa m c) ((z 0).val / 2048)) (blkOf (Ta m c) ((z 0).val / 2048)) (Ga m c) (Va m c) (Wa m c) (Sa m c) (ix2 (⟨(z 0).val % 2048, by omega⟩ : Fin 2048) (z 1))

theorem index0_9 : ∀ t : Fin cfg0.N, win0_9.index t = ![t.val, 0] := (by decide +kernel : ∀ t : Fin grid0.N, win0_9.index t = ![t.val, 0])

theorem final_k (c : Dev nD) : (dats m 0 c).arrAt 9 cfg0.N = kArr m c := by
  refine (dats m 0 c).arrAt_eq_of_covers 9 _ (by decide +kernel) fun t hf y => ?_
  have e0 : (((win0_9.blk t).view.emb y (0 : Fin 2)).val) = 2048 * t.val + (y (0 : Fin 2)).val := by blk_simp [index0_9]; simp; omega
  have e1 : (((win0_9.blk t).view.emb y (1 : Fin 2)).val) = (y (1 : Fin 2)).val := by blk_simp [index0_9]
  have hy : (y (0 : Fin 2)).val < 2048 := (y 0).isLt
  have h0 : (((win0_9.blk t).view.emb y (0 : Fin 2)).val) / 2048 = t.val := by rw [e0]; omega
  show (dats m 0 c).after 9 t y = kArr m c ((win0_9.blk t).view.emb y)
  unfold kArr
  rw [h0]
  refine congrArg ((dats m 0 c).after 9 t) (idx2_ext ?_ ?_)
  · show (y (0 : Fin 2)).val = (((win0_9.blk t).view.emb y (0 : Fin 2)).val) % 2048
    rw [e0]; omega
  · exact e1.symm

/-- Result `v`: row `r` is row `r % 2048` of block `r / 2048`. -/
def vArr (c : Dev nD) : S65536x128.Idx → Elt F .bf16 := fun z => vBlk (blkOf (Xa m c) ((z 0).val / 2048)) (Ga m c) (Wa m c) (Sa m c) (ix2 (⟨(z 0).val % 2048, by omega⟩ : Fin 2048) (z 1))

theorem index0_10 : ∀ t : Fin cfg0.N, win0_10.index t = ![t.val, 0] := (by decide +kernel : ∀ t : Fin grid0.N, win0_10.index t = ![t.val, 0])

theorem final_v (c : Dev nD) : (dats m 0 c).arrAt 10 cfg0.N = vArr m c := by
  refine (dats m 0 c).arrAt_eq_of_covers 10 _ (by decide +kernel) fun t hf y => ?_
  have e0 : (((win0_10.blk t).view.emb y (0 : Fin 2)).val) = 2048 * t.val + (y (0 : Fin 2)).val := by blk_simp [index0_10]; simp; omega
  have e1 : (((win0_10.blk t).view.emb y (1 : Fin 2)).val) = (y (1 : Fin 2)).val := by blk_simp [index0_10]
  have hy : (y (0 : Fin 2)).val < 2048 := (y 0).isLt
  have h0 : (((win0_10.blk t).view.emb y (0 : Fin 2)).val) / 2048 = t.val := by rw [e0]; omega
  show (dats m 0 c).after 10 t y = vArr m c ((win0_10.blk t).view.emb y)
  unfold vArr
  rw [h0]
  refine congrArg ((dats m 0 c).after 10 t) (idx2_ext ?_ ?_)
  · show (y (0 : Fin 2)).val = (((win0_10.blk t).view.emb y (0 : Fin 2)).val) % 2048
    rw [e0]; omega
  · exact e1.symm

/-- Result `codes`: row `r` is row `r % 256` of block `r / 256`. -/
def codesArr (c : Dev nD) : S8192x4608.Idx → Elt F .fp8e4m3 := fun z => cBlk (blkOf (Xa m c) ((z 0).val / 256)) (Ga m c) (ix2 (⟨(z 0).val % 256, by omega⟩ : Fin 256) (z 1))

theorem index0_11 : ∀ t : Fin cfg0.N, win0_11.index t = ![t.val, 0] := (by decide +kernel : ∀ t : Fin grid0.N, win0_11.index t = ![t.val, 0])

theorem final_codes (c : Dev nD) : (dats m 0 c).arrAt 11 cfg0.N = codesArr m c := by
  refine (dats m 0 c).arrAt_eq_of_covers 11 _ (by decide +kernel) fun t hf y => ?_
  have e0 : (((win0_11.blk t).view.emb y (0 : Fin 2)).val) = 256 * t.val + (y (0 : Fin 2)).val := by blk_simp [index0_11]; simp; omega
  have e1 : (((win0_11.blk t).view.emb y (1 : Fin 2)).val) = (y (1 : Fin 2)).val := by blk_simp [index0_11]
  have hy : (y (0 : Fin 2)).val < 256 := (y 0).isLt
  have h0 : (((win0_11.blk t).view.emb y (0 : Fin 2)).val) / 256 = t.val := by rw [e0]; omega
  show (dats m 0 c).after 11 t y = codesArr m c ((win0_11.blk t).view.emb y)
  unfold codesArr
  rw [h0]
  refine congrArg ((dats m 0 c).after 11 t) (idx2_ext ?_ ?_)
  · show (y (0 : Fin 2)).val = (((win0_11.blk t).view.emb y (0 : Fin 2)).val) % 256
    rw [e0]; omega
  · exact e1.symm

/-- Result `scales`: row `r` is row `r % 256` of block `r / 256`. -/
def scalesArr (c : Dev nD) : S8192x1.Idx → Elt F .f32 := fun z => sBlk (blkOf (Xa m c) ((z 0).val / 256)) (Ga m c) (ix2 (⟨(z 0).val % 256, by omega⟩ : Fin 256) (z 1))

theorem index0_12 : ∀ t : Fin cfg0.N, win0_12.index t = ![t.val, 0] := (by decide +kernel : ∀ t : Fin grid0.N, win0_12.index t = ![t.val, 0])

theorem final_scales (c : Dev nD) : (dats m 0 c).arrAt 12 cfg0.N = scalesArr m c := by
  refine (dats m 0 c).arrAt_eq_of_covers 12 _ (by decide +kernel) fun t hf y => ?_
  have e0 : (((win0_12.blk t).view.emb y (0 : Fin 2)).val) = 256 * t.val + (y (0 : Fin 2)).val := by blk_simp [index0_12]; simp; omega
  have e1 : (((win0_12.blk t).view.emb y (1 : Fin 2)).val) = (y (1 : Fin 2)).val := by blk_simp [index0_12]
  have hy : (y (0 : Fin 2)).val < 256 := (y 0).isLt
  have h0 : (((win0_12.blk t).view.emb y (0 : Fin 2)).val) / 256 = t.val := by rw [e0]; omega
  show (dats m 0 c).after 12 t y = scalesArr m c ((win0_12.blk t).view.emb y)
  unfold scalesArr
  rw [h0]
  refine congrArg ((dats m 0 c).after 12 t) (idx2_ext ?_ ?_)
  · show (y (0 : Fin 2)).val = (((win0_12.blk t).view.emb y (0 : Fin 2)).val) % 256
    rw [e0]; omega
  · exact e1.symm

end Cert.KernelIdeal.Val

end
-- ==== Proof.Spec.lean ====
/- Hand-written, untrusted. The mathematics both programs compute over the ideal floats, row by row: the normalized row, its power-of-two
   exponent, its codes and scale, a projected entry, and a rotated entry. -/
module

public import Idealize.ShloMosaic.Lib.Pipeline.ValueKit

@[expose] public section

set_option maxRecDepth 16384
set_option maxHeartbeats 4000000

noncomputable section

namespace Cert.Spec

open Idealize.ShloMosaic

local notation "𝕀" => Idealize.ShloMosaic.Ideal

/-- Entry `j` of a row divided by its root mean square and multiplied by the gain. -/
def nrm (x g : Fin 4608 → EReal) (j : Fin 4608) : EReal :=
  x j * Ideal.rsqrt (Ideal.div (∑ k, x k * x k) (Ideal.ofBits .f32 0x45900000#32) + Ideal.ofBits .f32 0x358637BD#32) * g j

/-- The largest magnitude of a normalized row. -/
def amx (x g : Fin 4608 → EReal) : EReal :=
  Finset.fold max (Ideal.ofBits .f32 0xFF800000#32) (fun k => FloatOps.absf (F := 𝕀) (φ := .f32) (nrm x g k)) Finset.univ

/-- The exponent of the row's scale. -/
def expo (x g : Fin 4608 → EReal) : EReal :=
  if amx x g = 0 then 0 else
    Ideal.liftRound Int.floor (Ideal.div (Ideal.log (amx x g * Ideal.ofBits .f32 0x3B124925#32)) (Ideal.log (Ideal.ofBits .f32 0x40000000#32))) + 1

/-- The row's scale. -/
def scl (x g : Fin 4608 → EReal) : EReal := FloatOps.exp2 (F := 𝕀) (φ := .f32) (expo x g)

/-- Code `j` of the row. -/
def cod (x g : Fin 4608 → EReal) (j : Fin 4608) : EReal :=
  min (Ideal.ofBits .f32 0x43E00000#32)
    (max (Ideal.ofBits .f32 0xC3E00000#32) (nrm x g j * FloatOps.exp2 (F := 𝕀) (φ := .f32) (0 - expo x g)))

/-- The row's product with one weight column, rescaled. -/
def proj (x g w : Fin 4608 → EReal) (s : EReal) : EReal := (∑ k, cod x g k * w k) * scl x g * s

/-- A rescaled product of a row's codes, by entries. -/
theorem proj_of {x g w w' c : Fin 4608 → EReal} {a s s' : EReal} (hc : ∀ k, c k = cod x g k) (hw : ∀ k, w k = w' k) (ha : a = scl x g)
    (hs : s = s') : (∑ k, c k * w k) * a * s = proj x g w' s' := by
  rw [funext hc, funext hw, ha, hs]; rfl

/-- Frequency `i`: 10000 to the power `-(2 i) / 128`. -/
def freq (i : Fin 64) : EReal :=
  Ideal.pow (Ideal.ofBits .f32 0x461C4000#32)
    (Ideal.div (-(Ideal.ofBits .f32 0x40000000#32 * FloatOps.sitofp (F := 𝕀) .f32 (BitVec.ofNat 32 i.val))) (Ideal.ofBits .f32 0x43000000#32))

/-- The angle of a position at one frequency. -/
def ang (t : BitVec 32) (f : EReal) : EReal := FloatOps.sitofp (F := 𝕀) .f32 t * f

/-- Lane `l` of a head `P` rotated by the angles of position `t`: the lower half is `a cos - b sin`, the upper half `b cos + a sin`. -/
def rope (P : Fin 128 → EReal) (t : BitVec 32) (f : Fin 64 → EReal) (l : Fin 128) : EReal :=
  if h : l.val < 64 then
    P l * Ideal.cos (ang t (f ⟨l.val, h⟩)) - P ⟨64 + l.val, by omega⟩ * Ideal.sin (ang t (f ⟨l.val, h⟩))
  else
    P l * Ideal.cos (ang t (f ⟨l.val - 64, by omega⟩)) + P ⟨l.val - 64, by omega⟩ * Ideal.sin (ang t (f ⟨l.val - 64, by omega⟩))

/-- The same rotation written as one multiply-add over the whole head: the partner lane is 64 lanes away, cyclically, and the sine is
    negated in the lower half. -/
theorem rope_roll (P : Fin 128 → EReal) (t : BitVec 32) (f : Fin 64 → EReal) (V : Fin 128 → EReal)
    (hV : ∀ l : Fin 128, V l = f ⟨l.val % 64, Nat.mod_lt _ (by decide)⟩) (l r : Fin 128) (hr : r.val = (l.val + 128 - 64) % 128) :
    P l * Ideal.cos (ang t (V l)) + P r * Scalar.select (α := EReal) (IntOp.cmpi .slt (BitVec.ofNat 32 l.val) 64#32)
        (0 - Ideal.sin (ang t (V l))) (Ideal.sin (ang t (V l))) = rope P t f l := by
  have hc : ∀ l : Fin 128, IntOp.cmpi .slt (BitVec.ofNat 32 l.val) 64#32 = BitVec.ofBool (decide (l.val < 64)) := by decide +kernel
  have hsel : ∀ (b : Bool) (x y : EReal), Scalar.select (BitVec.ofBool b) x y = if b then x else y := fun b x y => by cases b <;> rfl
  have hl := l.isLt
  rw [hc, hsel, hV, rope]
  by_cases h : l.val < 64
  · have e : (⟨l.val % 64, Nat.mod_lt _ (by decide)⟩ : Fin 64) = ⟨l.val, h⟩ := Fin.ext (Nat.mod_eq_of_lt h)
    have er : r = ⟨64 + l.val, by omega⟩ := Fin.ext (by show r.val = 64 + l.val; omega)
    rw [dif_pos h, if_pos (by simpa using h), e, er, zero_sub, mul_neg, sub_eq_add_neg]
  · have e : (⟨l.val % 64, Nat.mod_lt _ (by decide)⟩ : Fin 64) = ⟨l.val - 64, by omega⟩ := Fin.ext (by show l.val % 64 = l.val - 64; omega)
    have er : r = ⟨l.val - 64, by omega⟩ := Fin.ext (by show r.val = l.val - 64; omega)
    rw [dif_neg h, if_neg (by simpa using h), e, er]

/-! ## Over whole arrays -/

/-- Row `r` of a two-axis array. -/
def rowOf {R N : ℕ} {α : Type} (X : (⟨2, ![R, N]⟩ : Shape).Idx → α) (r : Fin R) : Fin N → α := fun k => X (ix2 r k)

/-- Column `j` of a two-axis array. -/
def colOf {R N : ℕ} {α : Type} (X : (⟨2, ![R, N]⟩ : Shape).Idx → α) (j : Fin N) : Fin R → α := fun k => X (ix2 k j)

variable {R : ℕ} (X : (⟨2, ![R, 4608]⟩ : Shape).Idx → EReal) (T : (⟨2, ![R, 1]⟩ : Shape).Idx → BitVec 32) (G : (⟨2, ![1, 4608]⟩ : Shape).Idx → EReal)
  (f : Fin 64 → EReal) (W : (⟨2, ![4608, 4096]⟩ : Shape).Idx → EReal) (S : (⟨2, ![1, 4096]⟩ : Shape).Idx → EReal)

/-- Column `j` of the projection of token `r`. -/
def projAt (r : Fin R) (j : Fin 4096) : EReal := proj (rowOf X r) (rowOf G 0) (colOf W j) (S (ix2 0 j))

/-- Lane `l` of rotated head `h` of token `r`. -/
def ropeAt (r : Fin R) (h : Fin 32) (l : Fin 128) : EReal :=
  rope (fun l => projAt X G W S r ⟨128 * h.val + l.val, by omega⟩) (T (ix2 r 0)) f l

/-! ## The five results, from the whole arrays -/

variable (X : (⟨2, ![8192, 4608]⟩ : Shape).Idx → EReal) (T : (⟨2, ![8192, 1]⟩ : Shape).Idx → BitVec 32)

/-- The rotated queries: row `z 0` is head `z 0 % 16` of token `z 0 / 16`. -/
def qS (z : (⟨2, ![131072, 128]⟩ : Shape).Idx) : EReal :=
  ropeAt X T G f W S ⟨(z 0).val / 16, by have h := (z 0).isLt; change (z 0).val < 131072 at h; omega⟩ ⟨(z 0).val % 16, by omega⟩ (z 1)

/-- The rotated keys: row `z 0` is head `16 + z 0 % 8` of token `z 0 / 8`. -/
def kS (z : (⟨2, ![65536, 128]⟩ : Shape).Idx) : EReal :=
  ropeAt X T G f W S ⟨(z 0).val / 8, by have h := (z 0).isLt; change (z 0).val < 65536 at h; omega⟩ ⟨16 + (z 0).val % 8, by omega⟩ (z 1)

/-- The values: row `z 0` is head `24 + z 0 % 8` of token `z 0 / 8`. -/
def vS (z : (⟨2, ![65536, 128]⟩ : Shape).Idx) : EReal :=
  projAt X G W S ⟨(z 0).val / 8, by have h := (z 0).isLt; change (z 0).val < 65536 at h; omega⟩
    ⟨128 * (24 + (z 0).val % 8) + (z 1).val, by have h := (z 1).isLt; change (z 1).val < 128 at h; omega⟩

/-- The codes. -/
def cS (z : (⟨2, ![8192, 4608]⟩ : Shape).Idx) : EReal := cod (rowOf X (z 0)) (rowOf G 0) (z 1)

/-- The scales. -/
def sS (z : (⟨2, ![8192, 1]⟩ : Shape).Idx) : EReal := scl (rowOf X (z 0)) (rowOf G 0)

end Cert.Spec

end
-- ==== Proof.SpecKernel.lean ====
/- Hand-written, untrusted. The kernel's blocks over the ideal floats, entry by entry: each entry of a block is the row-by-row mathematics of
   Spec.lean at the block's own row. -/
module

public import proofs.«01_k».proof.Proof.Step
public import proofs.«01_k».proof.Proof.Spec

@[expose] public section

set_option maxRecDepth 16384
set_option maxHeartbeats 4000000

noncomputable section

namespace Cert.KernelIdeal.Val

open Cert.KernelIdeal Cert.KernelIdeal.Gen Cert.Pieces Cert.Spec
open Idealize.ShloMosaic Idealize.ShloMosaic.TcCoe

local notation "𝕀" => Idealize.ShloMosaic.Ideal

/-- A normalized entry of a 32-row piece. -/
theorem pay1_at (x : FVec 𝕀 S32x4608 .bf16) (g : FVec 𝕀 S1x4608 .f32) (p : Fin 32) (j : Fin 4608) :
    k0_pay1 (F := 𝕀) x g (ix2 p j) = nrm (rowOf x p) (rowOf g 0) j := by
  pointwise [k0_pay1]; rfl

/-- The exponent of a row of a 32-row piece. -/
theorem pay2_at (x : FVec 𝕀 S32x4608 .bf16) (g : FVec 𝕀 S1x4608 .f32) (p : Fin 32) :
    k0_pay2 (F := 𝕀) x g (ix2 p 0) = expo (rowOf x p) (rowOf g 0) := by
  pointwise [k0_pay2]; simp only [pay1_at]; rfl

/-- A code of a 32-row piece. -/
theorem pay5_at (x : FVec 𝕀 S32x4608 .bf16) (g : FVec 𝕀 S1x4608 .f32) (p : Fin 32) (j : Fin 4608) :
    k0_pay5 (F := 𝕀) (Scalar.ofBits .f32 0x43E00000#32) (k0_pay4 x g) (ix3 (0 : Fin 1) p j) = cod (rowOf x p) (rowOf g 0) j := by
  pointwise [k0_pay5, k0_pay4]; simp only [pay1_at, pay2_at]; rfl

/-- A scale of a 32-row piece, in any lane. -/
theorem pay6_at (x : FVec 𝕀 S32x4608 .bf16) (g : FVec 𝕀 S1x4608 .f32) (p : Fin 32) (l : Fin 128) :
    k0_pay6 (F := 𝕀) (k0_pay3 x g) (ix3 (0 : Fin 1) p l) = scl (rowOf x p) (rowOf g 0) := by
  pointwise [k0_pay6, k0_pay3]; simp only [pay2_at]; rfl

/-- A cosine of a 32-row piece. -/
theorem pay8_at (t : IVec S32x1 32) (v : FVec 𝕀 S1x128 .f32) (p : Fin 32) (l : Fin 128) :
    k0_pay8 (F := 𝕀) t v (ix3 (0 : Fin 1) p l) = Ideal.cos (ang (t (ix2 p 0)) (v (ix2 0 l))) := by
  pointwise [k0_pay8, k0_pay7]; rfl

/-- A sine of a 32-row piece, negated in the lower half. -/
theorem pay9_at (t : IVec S32x1 32) (v : FVec 𝕀 S1x128 .f32) (p : Fin 32) (l : Fin 128) :
    k0_pay9 (F := 𝕀) t v (ix3 (0 : Fin 1) p l) = Scalar.select (α := EReal) (IntOp.cmpi .slt (BitVec.ofNat 32 l.val) 64#32)
      (0 - Ideal.sin (ang (t (ix2 p 0)) (v (ix2 0 l)))) (Ideal.sin (ang (t (ix2 p 0)) (v (ix2 0 l)))) := by
  pointwise [k0_pay9, k0_pay7]; rfl

/-- Row `p` of a block is row `p % 32` of its piece `p / 32`. -/
theorem rowsOf_row {α : Type} {N : ℕ} (X : (⟨2, ![256, N]⟩ : Shape).Idx → α) (p : Fin 256) :
    rowOf (rowsOf X ⟨p.val / 32, by omega⟩) ⟨p.val % 32, Nat.mod_lt _ (by decide)⟩ = rowOf X p :=
  funext fun k => congrArg X (idx2_ext (by show 32 * (p.val / 32) + p.val % 32 = p.val; omega) rfl)

/-- A code of a block. -/
theorem codes_at (X : FVec 𝕀 S256x4608 .bf16) (G : FVec 𝕀 S1x4608 .f32) (p : Fin 256) (j : Fin 4608) :
    k0_pay10 (F := 𝕀) (slab (codesB X G)) (ix2 p j) = cod (rowOf X p) (rowOf G 0) j := by
  pointwise [k0_pay10]
  refine (pay5_at (rowsOf X ⟨p.val / 32, by omega⟩) G ⟨p.val % 32, Nat.mod_lt _ (by decide)⟩ j).trans ?_
  rw [rowsOf_row]

/-- A scale of a block, in any lane. -/
theorem scale_at (X : FVec 𝕀 S256x4608 .bf16) (G : FVec 𝕀 S1x4608 .f32) (p : Fin 256) (l : Fin 128) :
    k0_pay11 (F := 𝕀) (slab (scaleB X G)) (ix2 p l) = scl (rowOf X p) (rowOf G 0) := by
  pointwise [k0_pay11]
  refine (pay6_at (rowsOf X ⟨p.val / 32, by omega⟩) G ⟨p.val % 32, Nat.mod_lt _ (by decide)⟩ l).trans ?_
  rw [rowsOf_row]

/-- A cosine of a block. -/
theorem cos_at (T : IVec S256x1 32) (V : FVec 𝕀 S1x128 .f32) (p : Fin 256) (l : Fin 128) :
    k0_pay12 (F := 𝕀) (slab (cosB T V)) (ix2 p l) = Ideal.cos (ang (T (ix2 p 0)) (V (ix2 0 l))) := by
  pointwise [k0_pay12]
  refine (pay8_at (rowsOf T ⟨p.val / 32, by omega⟩) V ⟨p.val % 32, Nat.mod_lt _ (by decide)⟩ l).trans ?_
  rw [show rowsOf T ⟨p.val / 32, by omega⟩ (ix2 ⟨p.val % 32, Nat.mod_lt _ (by decide)⟩ 0) = T (ix2 p 0) from congrFun (rowsOf_row T p) 0]

/-- A sine of a block, negated in the lower half. -/
theorem sin_at (T : IVec S256x1 32) (V : FVec 𝕀 S1x128 .f32) (p : Fin 256) (l : Fin 128) :
    k0_pay13 (F := 𝕀) (slab (sinB T V)) (ix2 p l) = Scalar.select (α := EReal) (IntOp.cmpi .slt (BitVec.ofNat 32 l.val) 64#32)
      (0 - Ideal.sin (ang (T (ix2 p 0)) (V (ix2 0 l)))) (Ideal.sin (ang (T (ix2 p 0)) (V (ix2 0 l)))) := by
  pointwise [k0_pay13]
  refine (pay9_at (rowsOf T ⟨p.val / 32, by omega⟩) V ⟨p.val % 32, Nat.mod_lt _ (by decide)⟩ l).trans ?_
  rw [show rowsOf T ⟨p.val / 32, by omega⟩ (ix2 ⟨p.val % 32, Nat.mod_lt _ (by decide)⟩ 0) = T (ix2 p 0) from congrFun (rowsOf_row T p) 0]

/-- The lane 64 lanes away, cyclically. -/
def rot (l : Fin 128) : Fin 128 := ⟨(l.val + 128 - 64) % 128, Nat.mod_lt _ (by decide)⟩

/-- Lane `l` of head `s` of a two-head tile. -/
def lane (s : Fin 2) (l : Fin 128) : Fin 256 := ⟨128 * s.val + l.val, by omega⟩

/-- An entry of a tile of rotated projections: a multiply-add of the projected lane and its partner. -/
theorem pay30_at (c : FVec 𝕀 S256x4608 .fp8e4m3) (sc co si : FVec 𝕀 S256x128 .f32) (w : FVec 𝕀 S4608x256 .fp8e4m3) (a b : FVec 𝕀 S1x128 .f32)
    (p : Fin 256) (s : Fin 2) (l : Fin 128) (P : Fin 128 → EReal)
    (hP : ∀ l : Fin 128, ((∑ k, c (ix2 p k) * w (ix2 k (lane s l))) * sc (ix2 p l) * (if s.val % 2 = 0 then a else b) (ix2 0 l) : EReal) = P l) :
    k0_pay30 (F := 𝕀) c sc co si w a b (ix3 p s l) = P l * co (ix2 p l) + P (rot l) * si (ix2 p l) := by
  rw [← hP l, ← hP (rot l)]
  pointwise [k0_pay30]
  rcases (by omega : s.val = 0 ∨ s.val = 1) with h | h <;> simp [lane, rot, h]

/-- An entry of a tile of projections that are not rotated. -/
theorem pay134_at (c : FVec 𝕀 S256x4608 .fp8e4m3) (sc : FVec 𝕀 S256x128 .f32) (w : FVec 𝕀 S4608x256 .fp8e4m3) (a b : FVec 𝕀 S1x128 .f32)
    (p : Fin 256) (s : Fin 2) (l : Fin 128) :
    k0_pay134 (F := 𝕀) c sc w a b (ix3 p s l) = (∑ k, c (ix2 p k) * w (ix2 k (lane s l))) * sc (ix2 p l) * (if s.val % 2 = 0 then a else b) (ix2 0 l) := by
  pointwise [k0_pay134]
  rcases (by omega : s.val = 0 ∨ s.val = 1) with h | h <;> simp [lane, h]

/-- A projected entry read from tile `n` of the weight and its scales. -/
theorem tile_proj (X : FVec 𝕀 S256x4608 .bf16) (G : FVec 𝕀 S1x4608 .f32) (W : FVec 𝕀 S4608x4096 .fp8e4m3) (S : FVec 𝕀 S1x4096 .f32)
    (n : Fin 16) (p : Fin 256) (s : Fin 2) (l : Fin 128) :
    ((∑ k, k0_pay10 (F := 𝕀) (slab (codesB X G)) (ix2 p k) * wcols W n (ix2 k (lane s l))) * k0_pay11 (F := 𝕀) (slab (scaleB X G)) (ix2 p l)
      * (if s.val % 2 = 0 then scols S ⟨2 * n.val, by omega⟩ else scols S ⟨2 * n.val + 1, by omega⟩) (ix2 0 l) : EReal)
    = projAt X G W S p ⟨128 * (2 * n.val + s.val) + l.val, by omega⟩ := by
  have hw : ∀ k, wcols W n (ix2 k (lane s l)) = colOf W ⟨128 * (2 * n.val + s.val) + l.val, by omega⟩ k := fun k =>
    congrArg W (idx2_ext rfl (by show 256 * n.val + (128 * s.val + l.val) = 128 * (2 * n.val + s.val) + l.val; omega))
  have hs : (if s.val % 2 = 0 then scols S ⟨2 * n.val, by omega⟩ else scols S ⟨2 * n.val + 1, by omega⟩) (ix2 0 l)
      = S (ix2 0 ⟨128 * (2 * n.val + s.val) + l.val, by omega⟩) := by
    by_cases h : s.val % 2 = 0
    · rw [if_pos h]
      exact congrArg S (idx2_ext rfl (by show 128 * (2 * n.val) + l.val = 128 * (2 * n.val + s.val) + l.val; omega))
    · rw [if_neg h]
      exact congrArg S (idx2_ext rfl (by show 128 * (2 * n.val + 1) + l.val = 128 * (2 * n.val + s.val) + l.val; omega))
  exact proj_of (codes_at X G p) hw (scale_at X G p l) hs

/-- An entry of tile `n` of the rotated projections. -/
theorem qTile_at (X : FVec 𝕀 S256x4608 .bf16) (T : IVec S256x1 32) (G : FVec 𝕀 S1x4608 .f32) (V : FVec 𝕀 S1x128 .f32) (W : FVec 𝕀 S4608x4096 .fp8e4m3)
    (S : FVec 𝕀 S1x4096 .f32) (f : Fin 64 → EReal) (hV : ∀ l : Fin 128, V (ix2 0 l) = f ⟨l.val % 64, Nat.mod_lt _ (by decide)⟩)
    (n : Fin 16) (p : Fin 256) (s : Fin 2) (l : Fin 128) :
    qTile (F := 𝕀) (codesB X G) (scaleB X G) (cosB T V) (sinB T V) W S n (ix3 p s l) = ropeAt X T G f W S p ⟨2 * n.val + s.val, by omega⟩ l := by
  refine (pay30_at _ _ _ _ _ _ _ p s l (fun l => projAt X G W S p ⟨128 * (2 * n.val + s.val) + l.val, by omega⟩) (tile_proj X G W S n p s)).trans ?_
  rw [cos_at, sin_at]
  exact rope_roll (fun l => projAt X G W S p ⟨128 * (2 * n.val + s.val) + l.val, by omega⟩) (T (ix2 p 0)) f (fun l => V (ix2 0 l)) hV l (rot l) rfl

/-- An entry of tile `n` of the projections that are not rotated. -/
theorem vTile_at (X : FVec 𝕀 S256x4608 .bf16) (G : FVec 𝕀 S1x4608 .f32) (W : FVec 𝕀 S4608x4096 .fp8e4m3) (S : FVec 𝕀 S1x4096 .f32)
    (n : Fin 16) (p : Fin 256) (s : Fin 2) (l : Fin 128) :
    vTile (F := 𝕀) (codesB X G) (scaleB X G) W S n (ix3 p s l) = projAt X G W S p ⟨128 * (2 * n.val + s.val) + l.val, by omega⟩ :=
  (pay134_at _ _ _ _ _ p s l).trans (tile_proj X G W S n p s l)

/-- An entry of the block of rotated queries: row `r` is head `r % 16` of token `r / 16`. -/
theorem qBlk_at (X : FVec 𝕀 S256x4608 .bf16) (T : IVec S256x1 32) (G : FVec 𝕀 S1x4608 .f32) (V : FVec 𝕀 S1x128 .f32) (W : FVec 𝕀 S4608x4096 .fp8e4m3)
    (S : FVec 𝕀 S1x4096 .f32) (f : Fin 64 → EReal) (hV : ∀ l : Fin 128, V (ix2 0 l) = f ⟨l.val % 64, Nat.mod_lt _ (by decide)⟩)
    (r : Fin 4096) (l : Fin 128) :
    qBlk (F := 𝕀) X T G V W S (ix2 r l) = ropeAt X T G f W S ⟨r.val / 16, by omega⟩ ⟨r.val % 16, by omega⟩ l := by
  refine (qTile_at X T G V W S f hV ⟨r.val / 2 % 8, by omega⟩ ⟨r.val / 2 / 8, by omega⟩ ⟨r.val % 2, by omega⟩ l).trans ?_
  exact congrArg₂ (fun p h => ropeAt X T G f W S p h l) (Fin.ext (by show r.val / 2 / 8 = r.val / 16; omega))
    (Fin.ext (by show 2 * (r.val / 2 % 8) + r.val % 2 = r.val % 16; omega))

/-- An entry of the block of rotated keys: row `r` is head `16 + r % 8` of token `r / 8`. -/
theorem kBlk_at (X : FVec 𝕀 S256x4608 .bf16) (T : IVec S256x1 32) (G : FVec 𝕀 S1x4608 .f32) (V : FVec 𝕀 S1x128 .f32) (W : FVec 𝕀 S4608x4096 .fp8e4m3)
    (S : FVec 𝕀 S1x4096 .f32) (f : Fin 64 → EReal) (hV : ∀ l : Fin 128, V (ix2 0 l) = f ⟨l.val % 64, Nat.mod_lt _ (by decide)⟩)
    (r : Fin 2048) (l : Fin 128) :
    kBlk (F := 𝕀) X T G V W S (ix2 r l) = ropeAt X T G f W S ⟨r.val / 8, by omega⟩ ⟨16 + r.val % 8, by omega⟩ l := by
  refine (qTile_at X T G V W S f hV ⟨r.val / 2 % 4 + 8, by omega⟩ ⟨r.val / 2 / 4, by omega⟩ ⟨r.val % 2, by omega⟩ l).trans ?_
  exact congrArg₂ (fun p h => ropeAt X T G f W S p h l) (Fin.ext (by show r.val / 2 / 4 = r.val / 8; omega))
    (Fin.ext (by show 2 * (r.val / 2 % 4 + 8) + r.val % 2 = 16 + r.val % 8; omega))

/-- An entry of the block of values: row `r` is head `24 + r % 8` of token `r / 8`. -/
theorem vBlk_at (X : FVec 𝕀 S256x4608 .bf16) (G : FVec 𝕀 S1x4608 .f32) (W : FVec 𝕀 S4608x4096 .fp8e4m3) (S : FVec 𝕀 S1x4096 .f32)
    (r : Fin 2048) (l : Fin 128) :
    vBlk (F := 𝕀) X G W S (ix2 r l) = projAt X G W S ⟨r.val / 8, by omega⟩ ⟨128 * (24 + r.val % 8) + l.val, by omega⟩ := by
  refine (vTile_at X G W S ⟨r.val / 2 % 4 + 12, by omega⟩ ⟨r.val / 2 / 4, by omega⟩ ⟨r.val % 2, by omega⟩ l).trans ?_
  exact congrArg₂ (fun p h => projAt X G W S p h) (Fin.ext (by show r.val / 2 / 4 = r.val / 8; omega))
    (Fin.ext (by show 128 * (2 * (r.val / 2 % 4 + 12) + r.val % 2) + l.val = 128 * (24 + r.val % 8) + l.val; omega))

/-- An entry of the block of scales. -/
theorem sBlk_at (X : FVec 𝕀 S256x4608 .bf16) (G : FVec 𝕀 S1x4608 .f32) (r : Fin 256) :
    sBlk (F := 𝕀) X G (ix2 r 0) = scl (rowOf X r) (rowOf G 0) := by
  unfold sBlk
  pointwise [k0_pay135]
  exact scale_at X G r 0

end Cert.KernelIdeal.Val

end
-- ==== Proof.KernelValue.lean ====
/- Hand-written, untrusted. The kernel's five results over the ideal floats are the row-by-row mathematics of Spec.lean over the arrays the
   kernel is called with. -/
module

public import proofs.«01_k».proof.Proof.Run
public import proofs.«01_k».proof.Proof.SpecKernel

@[expose] public section

set_option maxRecDepth 16384
set_option maxHeartbeats 4000000

noncomputable section

namespace Cert.KernelIdeal.Val

open Cert.KernelIdeal Cert.KernelIdeal.Gen Cert.Pieces Cert.Spec
open Idealize.ShloMosaic Idealize.ShloMosaic.TcCoe Idealize.SL.Sem

local notation "𝕀" => Idealize.ShloMosaic.Ideal

section
variable (X : (⟨2, ![8192, 4608]⟩ : Shape).Idx → EReal) (T : (⟨2, ![8192, 1]⟩ : Shape).Idx → BitVec 32) (G : (⟨2, ![1, 4608]⟩ : Shape).Idx → EReal)
  (f : Fin 64 → EReal) (W : (⟨2, ![4608, 4096]⟩ : Shape).Idx → EReal) (S : (⟨2, ![1, 4096]⟩ : Shape).Idx → EReal)

/-- A row of block `t` is a row of the array. -/
theorem rowOf_blk (t : ℕ) (p : Fin 256) (r : Fin 8192) (h : (256 * t + p.val) % 8192 = r.val) : rowOf (blkOf X t) p = rowOf X r := by
  obtain rfl : (⟨(256 * t + p.val) % 8192, Nat.mod_lt _ (by decide)⟩ : Fin 8192) = r := Fin.ext h
  rfl

/-- A position of block `t` is a position of the array. -/
theorem pos_blk (t : ℕ) (p : Fin 256) (r : Fin 8192) (h : (256 * t + p.val) % 8192 = r.val) : blkOf T t (ix2 p 0) = T (ix2 r 0) := by
  obtain rfl : (⟨(256 * t + p.val) % 8192, Nat.mod_lt _ (by decide)⟩ : Fin 8192) = r := Fin.ext h
  rfl

/-- A projection of a row of block `t`. -/
theorem projAt_blk (t : ℕ) (p : Fin 256) (r : Fin 8192) (h : (256 * t + p.val) % 8192 = r.val) (j : Fin 4096) :
    projAt (blkOf X t) G W S p j = projAt X G W S r j := by
  unfold projAt; rw [rowOf_blk X t p r h]

/-- A rotated head of a row of block `t`. -/
theorem ropeAt_blk (t : ℕ) (p : Fin 256) (r : Fin 8192) (h : (256 * t + p.val) % 8192 = r.val) (k k' : Fin 32) (hk : k.val = k'.val) (l : Fin 128) :
    ropeAt (blkOf X t) (blkOf T t) G f W S p k l = ropeAt X T G f W S r k' l := by
  obtain rfl : k = k' := Fin.ext hk
  unfold ropeAt
  rw [pos_blk T t p r h]
  exact congrArg (fun P => rope P (T (ix2 r 0)) f l) (funext fun l => projAt_blk X G W S t p r h _)
end

variable (m : (ℓ : Loc nD τ sig) → Buf (Elt 𝕀) ℓ)

/-- The kernel's queries. -/
theorem qArr_eq (c : Dev nD) (f : Fin 64 → EReal) (hV : ∀ l : Fin 128, Va m c (ix2 0 l) = f ⟨l.val % 64, Nat.mod_lt _ (by decide)⟩) :
    qArr m c = qS (Ga m c) f (Wa m c) (Sa m c) (Xa m c) (Ta m c) := by
  funext z
  have hz : (z 0).val < 131072 := (z 0).isLt
  refine (qBlk_at (blkOf (Xa m c) ((z 0).val / 4096)) (blkOf (Ta m c) ((z 0).val / 4096)) (Ga m c) (Va m c) (Wa m c) (Sa m c) f hV
    ⟨(z 0).val % 4096, by omega⟩ (z 1)).trans ?_
  exact ropeAt_blk (Xa m c) (Ta m c) (Ga m c) f (Wa m c) (Sa m c) _ _ ⟨(z 0).val / 16, by omega⟩
    (by show (256 * ((z 0).val / 4096) + (z 0).val % 4096 / 16) % 8192 = (z 0).val / 16; omega) _ ⟨(z 0).val % 16, by omega⟩
    (by show (z 0).val % 4096 % 16 = (z 0).val % 16; omega) (z 1)

/-- The kernel's keys. -/
theorem kArr_eq (c : Dev nD) (f : Fin 64 → EReal) (hV : ∀ l : Fin 128, Va m c (ix2 0 l) = f ⟨l.val % 64, Nat.mod_lt _ (by decide)⟩) :
    kArr m c = kS (Ga m c) f (Wa m c) (Sa m c) (Xa m c) (Ta m c) := by
  funext z
  have hz : (z 0).val < 65536 := (z 0).isLt
  refine (kBlk_at (blkOf (Xa m c) ((z 0).val / 2048)) (blkOf (Ta m c) ((z 0).val / 2048)) (Ga m c) (Va m c) (Wa m c) (Sa m c) f hV
    ⟨(z 0).val % 2048, by omega⟩ (z 1)).trans ?_
  exact ropeAt_blk (Xa m c) (Ta m c) (Ga m c) f (Wa m c) (Sa m c) _ _ ⟨(z 0).val / 8, by omega⟩
    (by show (256 * ((z 0).val / 2048) + (z 0).val % 2048 / 8) % 8192 = (z 0).val / 8; omega) _ ⟨16 + (z 0).val % 8, by omega⟩
    (by show 16 + (z 0).val % 2048 % 8 = 16 + (z 0).val % 8; omega) (z 1)

/-- The kernel's values. -/
theorem vArr_eq (c : Dev nD) : vArr m c = vS (Ga m c) (Wa m c) (Sa m c) (Xa m c) := by
  funext z
  have hz : (z 0).val < 65536 := (z 0).isLt
  have hl : (z 1).val < 128 := (z 1).isLt
  refine (vBlk_at (blkOf (Xa m c) ((z 0).val / 2048)) (Ga m c) (Wa m c) (Sa m c) ⟨(z 0).val % 2048, by omega⟩ (z 1)).trans ?_
  refine (projAt_blk (Xa m c) (Ga m c) (Wa m c) (Sa m c) _ _ ⟨(z 0).val / 8, by omega⟩
    (by show (256 * ((z 0).val / 2048) + (z 0).val % 2048 / 8) % 8192 = (z 0).val / 8; omega) _).trans ?_
  exact congrArg (projAt (Xa m c) (Ga m c) (Wa m c) (Sa m c) ⟨(z 0).val / 8, by omega⟩)
    (Fin.ext (by show 128 * (24 + (z 0).val % 2048 % 8) + (z 1).val = 128 * (24 + (z 0).val % 8) + (z 1).val; omega))

/-- The kernel's codes. -/
theorem codesArr_eq (c : Dev nD) : codesArr m c = cS (Ga m c) (Xa m c) := by
  funext z
  have hz : (z 0).val < 8192 := (z 0).isLt
  refine (codes_at (blkOf (Xa m c) ((z 0).val / 256)) (Ga m c) ⟨(z 0).val % 256, by omega⟩ (z 1)).trans ?_
  exact congrArg (fun r => cod r (rowOf (Ga m c) 0) (z 1)) (rowOf_blk (Xa m c) _ _ (z 0)
    (by show (256 * ((z 0).val / 256) + (z 0).val % 256) % 8192 = (z 0).val; omega))

/-- The kernel's scales. -/
theorem scalesArr_eq (c : Dev nD) : scalesArr m c = sS (Ga m c) (Xa m c) := by
  funext z
  have hz : (z 0).val < 8192 := (z 0).isLt
  have h1 : z 1 = (0 : Fin 1) := Fin.ext (Nat.lt_one_iff.mp (z 1).isLt)
  unfold scalesArr
  rw [h1]
  refine (sBlk_at (blkOf (Xa m c) ((z 0).val / 256)) (Ga m c) ⟨(z 0).val % 256, by omega⟩).trans ?_
  exact congrArg (fun r => scl r (rowOf (Ga m c) 0)) (rowOf_blk (Xa m c) _ _ (z 0)
    (by show (256 * ((z 0).val / 256) + (z 0).val % 256) % 8192 = (z 0).val; omega))

/-! ## The arrays the kernel is called with, from the arguments -/

/-- The rows are the first argument, flattened over its two leading axes. -/
theorem Xa_eq (c : Dev nD) : Xa m c = shapeCast S8192x4608 (m ((c : Thread nD τ).loc main_arg0)) shapeCasts_S4x2048x4608_S8192x4608 := by
  unfold Xa; entry_read; rfl

/-- The gains are the second argument as one row. -/
theorem Ga_eq (c : Dev nD) : Ga m c = shapeCast S1x4608 (m ((c : Thread nD τ).loc main_arg1)) shapeCasts_S4608_S1x4608 := by
  unfold Ga; entry_read; rfl

/-- The positions are the third argument as one column. -/
theorem Ta_eq (c : Dev nD) : Ta m c = shapeCast S8192x1 (m ((c : Thread nD τ).loc main_arg2)) shapeCasts_S4x2048_S8192x1 := by
  unfold Ta; entry_read; rfl

/-- The weights are the fourth argument. -/
theorem Wa_eq (c : Dev nD) : Wa m c = m ((c : Thread nD τ).loc main_arg3) := V_main_arg3 m c

/-- The weights' scales are the fifth argument as one row. -/
theorem Sa_eq (c : Dev nD) : Sa m c = shapeCast S1x4096 (m ((c : Thread nD τ).loc main_arg4)) shapeCasts_S4096_S1x4096 := by
  unfold Sa; entry_read; rfl

/-- The 128 lanes hold the 64 frequencies twice. -/
theorem Va_at (c : Dev nD) (l : Fin 128) : Va m c (ix2 0 l) = freq ⟨l.val % 64, Nat.mod_lt _ (by decide)⟩ := by
  have hl := l.isLt
  unfold Va
  entry_read
  pointwise
  unfold freq
  by_cases h : l.val < 64
  · rw [dif_pos h]
    simp only [show l.val % 64 = l.val from Nat.mod_eq_of_lt h]
  · rw [dif_neg h]
    simp only [show l.val % 64 = l.val - 64 by omega]

/-- Every execution ends with the five results at the row-by-row mathematics and with the arguments unchanged. -/
theorem run_value (ρ : Dev nD → PrngReg) : θ_run defs (onTc (τ := τ) (main (F := 𝕀))) ⟨m, fun _ => 0, ρ⟩ (fun r => ∀ c : Dev nD,
      r.2.mem ((c.tc : Thread nD τ).loc main_v16_0) = qS (Ga m c) freq (Wa m c) (Sa m c) (Xa m c) (Ta m c)
      ∧ r.2.mem ((c.tc : Thread nD τ).loc main_v16_1) = kS (Ga m c) freq (Wa m c) (Sa m c) (Xa m c) (Ta m c)
      ∧ r.2.mem ((c.tc : Thread nD τ).loc main_v16_2) = vS (Ga m c) (Wa m c) (Sa m c) (Xa m c)
      ∧ r.2.mem ((c.tc : Thread nD τ).loc main_v16_3) = cS (Ga m c) (Xa m c)
      ∧ r.2.mem ((c.tc : Thread nD τ).loc main_v16_4) = sS (Ga m c) (Xa m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 8).trans ((final_q m c).trans (qArr_eq m c freq (Va_at m c))),
      ((h c).1 9).trans ((final_k m c).trans (kArr_eq m c freq (Va_at m c))),
      ((h c).1 10).trans ((final_v m c).trans (vArr_eq m c)),
      ((h c).1 11).trans ((final_codes m c).trans (codesArr_eq m c)),
      ((h c).1 12).trans ((final_scales m c).trans (scalesArr_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c)⟩) (run_main m ρ)

end Cert.KernelIdeal.Val

end
-- ==== Proof.SpecRef.lean ====
/- Hand-written, untrusted. The reference's results over the ideal floats are the row-by-row mathematics of Spec.lean. -/
module

public import proofs.«01_k».proof.Proof.Gen.ReferenceIdeal.Frame
public import proofs.«01_k».proof.Proof.Gen.ReferenceIdeal.Skeleton
public import proofs.«01_k».proof.Proof.Spec

@[expose] public section

set_option maxRecDepth 16384
set_option maxHeartbeats 4000000

noncomputable section

namespace Cert.ReferenceIdeal.Val

open Cert.ReferenceIdeal Cert.ReferenceIdeal.Gen Cert.Spec
open Idealize.ShloMosaic Idealize.ShloMosaic.TcCoe

local notation "𝕀" => Idealize.ShloMosaic.Ideal

/-- A normalized entry. -/
theorem pay3_at (x : FVec 𝕀 S8192x4608 .bf16) (g : FVec 𝕀 S1x4608 .f32) (p : Fin 8192) (j : Fin 4608) :
    k0_pay3 (F := 𝕀) x g (ix2 p j) = nrm (rowOf x p) (rowOf g 0) j := by
  pointwise [k0_pay3]; rfl

/-- The largest magnitude of a row, as a column. -/
theorem amax_col (n : FVec 𝕀 S8192x4608 .f32) (p : Fin 8192) :
    (shapeCast S8192x1 (multiReduction .maximumf [1] S8192 (absf n) 0xFF800000#32 reduces_S8192x4608_S8192 (.inl rfl) rfl : FVec 𝕀 S8192 .f32)
      shapeCasts_S8192_S8192x1 : FVec 𝕀 S8192x1 .f32) (ix2 p 0)
    = Finset.fold max (Ideal.ofBits .f32 0xFF800000#32) (fun k : Fin 4608 => FloatOps.absf (F := 𝕀) (φ := .f32) (n (ix2 p k))) Finset.univ := by
  pointwise

/-- The exponent that belongs to a largest magnitude. -/
theorem expo_col (A : FVec 𝕀 S8192x1 .f32) (p : Fin 8192) :
    (select (cmpf .oeq A (broadcast S8192x1 (Scalar.ofBits (F := 𝕀) .f32 0x00000000#32))) (broadcast S8192x1 (Scalar.ofBits (F := 𝕀) .f32 0x00000000#32))
      (addf (floor (divf (log (mulf A (broadcast S8192x1 (Scalar.ofBits (F := 𝕀) .f32 0x3B124925#32))))
        (log (broadcast S8192x1 (Scalar.ofBits (F := 𝕀) .f32 0x40000000#32))))) (broadcast S8192x1 (Scalar.ofBits (F := 𝕀) .f32 0x3F800000#32))) : FVec 𝕀 S8192x1 .f32) (ix2 p 0)
    = if (A (ix2 p 0) : EReal) = 0 then (0 : EReal) else
        Ideal.liftRound Int.floor (Ideal.div (Ideal.log ((A (ix2 p 0) : EReal) * Ideal.ofBits .f32 0x3B124925#32)) (Ideal.log (Ideal.ofBits .f32 0x40000000#32))) + 1 := by
  pointwise

/-- The code of a normalized entry. -/
theorem cod_col (n : FVec 𝕀 S8192x4608 .f32) (e : FVec 𝕀 S8192x1 .f32) (p : Fin 8192) (j : Fin 4608) :
    (truncf .fp8e4m3 (minimumf (broadcast S8192x4608 (Scalar.ofBits (F := 𝕀) .f32 0x43E00000#32)) (maximumf (broadcast S8192x4608 (Scalar.ofBits (F := 𝕀) .f32 0xC3E00000#32))
      (mulf n (broadcastTo S8192x4608 (exp2 (subf (broadcast S8192x1 (Scalar.ofBits (F := 𝕀) .f32 0x00000000#32)) e)) broadcasts_S8192x1_S8192x4608))))
        bitsLt_fp8e4m3_f32 : FVec 𝕀 S8192x4608 .fp8e4m3) (ix2 p j)
    = min (Ideal.ofBits .f32 0x43E00000#32) (max (Ideal.ofBits .f32 0xC3E00000#32)
        ((n (ix2 p j) : EReal) * FloatOps.exp2 (F := 𝕀) (φ := .f32) ((0 : EReal) - (e (ix2 p 0) : EReal)))) := by
  pointwise

/-- A column of powers of two. -/
theorem exp2_col (v : FVec 𝕀 S8192x1 .f32) (p : Fin 8192) (e : EReal) (h : v (ix2 p 0) = e) :
    (exp2 v : FVec 𝕀 S8192x1 .f32) (ix2 p 0) = FloatOps.exp2 (F := 𝕀) (φ := .f32) e :=
  congrArg (FloatOps.exp2 (F := 𝕀) (φ := .f32)) h

/-- The largest magnitude of a normalized row. -/
theorem amax_at (x : FVec 𝕀 S8192x4608 .bf16) (g : FVec 𝕀 S1x4608 .f32) (p : Fin 8192) :
    (shapeCast S8192x1 (multiReduction .maximumf [1] S8192 (absf (k0_pay3 (F := 𝕀) x g)) 0xFF800000#32 reduces_S8192x4608_S8192 (.inl rfl) rfl : FVec 𝕀 S8192 .f32)
      shapeCasts_S8192_S8192x1 : FVec 𝕀 S8192x1 .f32) (ix2 p 0) = amx (rowOf x p) (rowOf g 0) :=
  (amax_col (k0_pay3 (F := 𝕀) x g) p).trans
    (congrArg (fun f : Fin 4608 → EReal => Finset.fold max (Ideal.ofBits .f32 0xFF800000#32) (fun k => FloatOps.absf (F := 𝕀) (φ := .f32) (f k)) Finset.univ)
      (funext fun k => pay3_at x g p k))

/-- The exponent of a largest magnitude `a`. -/
def expoOf (a : EReal) : EReal :=
  if a = 0 then 0 else Ideal.liftRound Int.floor (Ideal.div (Ideal.log (a * Ideal.ofBits .f32 0x3B124925#32)) (Ideal.log (Ideal.ofBits .f32 0x40000000#32))) + 1

/-- The exponent of a row. -/
theorem pay4_at (x : FVec 𝕀 S8192x4608 .bf16) (g : FVec 𝕀 S1x4608 .f32) (p : Fin 8192) :
    k0_pay4 (F := 𝕀) x g (ix2 p 0) = expo (rowOf x p) (rowOf g 0) :=
  (expo_col (shapeCast S8192x1 (multiReduction .maximumf [1] S8192 (absf (k0_pay3 (F := 𝕀) x g)) 0xFF800000#32 reduces_S8192x4608_S8192 (.inl rfl) rfl : FVec 𝕀 S8192 .f32)
    shapeCasts_S8192_S8192x1) p).trans (congrArg expoOf (amax_at x g p))

/-- The scale of a row. -/
theorem pay5_at (x : FVec 𝕀 S8192x4608 .bf16) (g : FVec 𝕀 S1x4608 .f32) (p : Fin 8192) :
    k0_pay5 (F := 𝕀) x g (ix2 p 0) = scl (rowOf x p) (rowOf g 0) :=
  exp2_col (k0_pay4 (F := 𝕀) x g) p (expo (rowOf x p) (rowOf g 0)) (pay4_at x g p)

/-- A code of a normalized entry `n` in a row with exponent `e`. -/
def codOf (n e : EReal) : EReal :=
  min (Ideal.ofBits .f32 0x43E00000#32) (max (Ideal.ofBits .f32 0xC3E00000#32) (n * FloatOps.exp2 (F := 𝕀) (φ := .f32) (0 - e)))

/-- A code. -/
theorem pay6_at (x : FVec 𝕀 S8192x4608 .bf16) (g : FVec 𝕀 S1x4608 .f32) (p : Fin 8192) (j : Fin 4608) :
    k0_pay6 (F := 𝕀) x g (ix2 p j) = cod (rowOf x p) (rowOf g 0) j :=
  (cod_col (k0_pay3 (F := 𝕀) x g) (k0_pay4 (F := 𝕀) x g) p j).trans (congrArg₂ codOf (pay3_at x g p j) (pay4_at x g p))

variable (X : FVec 𝕀 S8192x4608 .bf16) (G : FVec 𝕀 S1x4608 .f32) (T : IVec S8192x1 32) (I : FVec 𝕀 S1x64 .f32)
  (W : FVec 𝕀 S4608x4096 .fp8e4m3) (S : FVec 𝕀 S1x4096 .f32)

/-- A projected entry. -/
theorem pay7_at (p : Fin 8192) (j : Fin 4096) : k0_pay7 (F := 𝕀) (k0_pay5 X G) (k0_pay6 X G) W S (ix2 p j) = projAt X G W S p j := by
  have hc := pay6_at X G p
  have hs := pay5_at X G p
  generalize k0_pay6 (F := 𝕀) X G = c at hc ⊢
  generalize k0_pay5 (F := 𝕀) X G = a at hs ⊢
  pointwise [k0_pay7]
  exact proj_of (c := fun k => c (ix2 p k)) hc (fun _ => rfl) hs rfl

/-- A rotated head from its two halves. -/
theorem ropeAt_halves (r : Fin 8192) (h : Fin 32) (l : Fin 128) (lo hi : ℕ → ℕ) (hlo : ∀ i, lo i = 128 * h.val + i) (hhi : ∀ i, hi i = 128 * h.val + (64 + i))
    (f : Fin 64 → EReal) (blo : ∀ i, i < 64 → lo i < 4096) (bhi : ∀ i, i < 64 → hi i < 4096) :
    (if hl : l.val < 64 then
      projAt X G W S r ⟨lo l.val, blo _ hl⟩ * Ideal.cos (ang (T (ix2 r 0)) (f ⟨l.val, hl⟩))
        - projAt X G W S r ⟨hi l.val, bhi _ hl⟩ * Ideal.sin (ang (T (ix2 r 0)) (f ⟨l.val, hl⟩))
    else
      projAt X G W S r ⟨hi (l.val - 64), bhi _ (by omega)⟩ * Ideal.cos (ang (T (ix2 r 0)) (f ⟨l.val - 64, by omega⟩))
        + projAt X G W S r ⟨lo (l.val - 64), blo _ (by omega)⟩ * Ideal.sin (ang (T (ix2 r 0)) (f ⟨l.val - 64, by omega⟩)))
    = ropeAt X T G f W S r h l := by
  unfold ropeAt rope
  by_cases hl : l.val < 64
  · simp only [dif_pos hl, hlo, hhi]
  · have e : 64 + (l.val - 64) = l.val := by omega
    simp only [dif_neg hl, hlo, hhi, e]

/-- The reference's rotated queries. -/
theorem q_at (p : Fin 131072) (l : Fin 128) :
    k0_pay13 (F := 𝕀) (k0_pay5 X G) (k0_pay6 X G) W S T I (ix2 p l) = qS G (fun i => I (ix2 0 i)) W S X T (ix2 p l) := by
  have h7 := pay7_at X G W S
  unfold k0_pay13
  generalize k0_pay7 (F := 𝕀) (k0_pay5 X G) (k0_pay6 X G) W S = P at h7 ⊢
  pointwise [k0_pay10, k0_pay11, k0_pay12]
  simp only [h7]
  exact ropeAt_halves X G T W S ⟨p.val / 16, by omega⟩ ⟨p.val % 16, by omega⟩ l (fun i => p.val % 16 * 128 + i) (fun i => p.val % 16 * 128 + (64 + i))
    (fun i => by show p.val % 16 * 128 + i = 128 * (p.val % 16) + i; omega) (fun i => by show p.val % 16 * 128 + (64 + i) = 128 * (p.val % 16) + (64 + i); omega)
    (fun i => I (ix2 0 i)) (fun i hi => by show p.val % 16 * 128 + i < 4096; omega) (fun i hi => by show p.val % 16 * 128 + (64 + i) < 4096; omega)

/-- The reference's rotated keys. -/
theorem k_at (p : Fin 65536) (l : Fin 128) :
    k0_pay1 (F := 𝕀) (k0_pay11 T I) (k0_pay12 T I) (k0_pay14 (k0_pay5 X G) (k0_pay6 X G) W S) (k0_pay15 (k0_pay5 X G) (k0_pay6 X G) W S)
      (k0_pay16 (k0_pay5 X G) (k0_pay6 X G) W S T I) (k0_pay17 (k0_pay5 X G) (k0_pay6 X G) W S T I) (ix2 p l)
      = kS G (fun i => I (ix2 0 i)) W S X T (ix2 p l) := by
  have h7 := pay7_at X G W S
  unfold k0_pay16 k0_pay17 k0_pay14 k0_pay15 k0_pay8
  generalize k0_pay7 (F := 𝕀) (k0_pay5 X G) (k0_pay6 X G) W S = P at h7 ⊢
  pointwise [k0_pay1, k0_pay10, k0_pay11, k0_pay12]
  simp only [h7]
  exact ropeAt_halves X G T W S ⟨p.val / 8, by omega⟩ ⟨16 + p.val % 8, by omega⟩ l (fun i => 2048 + (p.val % 8 * 128 + i)) (fun i => 2048 + (p.val % 8 * 128 + (64 + i)))
    (fun i => by show 2048 + (p.val % 8 * 128 + i) = 128 * (16 + p.val % 8) + i; omega) (fun i => by show 2048 + (p.val % 8 * 128 + (64 + i)) = 128 * (16 + p.val % 8) + (64 + i); omega)
    (fun i => I (ix2 0 i)) (fun i hi => by show 2048 + (p.val % 8 * 128 + i) < 4096; omega) (fun i hi => by show 2048 + (p.val % 8 * 128 + (64 + i)) < 4096; omega)

/-- The reference's values. -/
theorem v_at (p : Fin 65536) (l : Fin 128) :
    k0_pay2 (F := 𝕀) (k0_pay9 (k0_pay5 X G) (k0_pay6 X G) W S) (ix2 p l) = vS G W S X (ix2 p l) := by
  have h7 := pay7_at X G W S
  unfold k0_pay9
  generalize k0_pay7 (F := 𝕀) (k0_pay5 X G) (k0_pay6 X G) W S = P at h7 ⊢
  pointwise [k0_pay2]
  refine (h7 _ _).trans ?_
  unfold vS
  exact congrArg (projAt X G W S _) (Fin.ext (by show 3072 + (p.val % 8 * 128 + l.val) = 128 * (24 + p.val % 8) + l.val; omega))

end Cert.ReferenceIdeal.Val

end
-- ==== Proof.RefValue.lean ====
/- Hand-written, untrusted. The reference's five results over the ideal floats are the row-by-row mathematics of Spec.lean over the arrays
   the reference computes with. -/
module

public import proofs.«01_k».proof.Proof.SpecRef

@[expose] public section

set_option maxRecDepth 16384
set_option maxHeartbeats 4000000

noncomputable section

namespace Cert.ReferenceIdeal.Val

open Cert.ReferenceIdeal Cert.ReferenceIdeal.Gen Cert.Spec
open Idealize.ShloMosaic Idealize.ShloMosaic.TcCoe Idealize.SL.Sem

local notation "𝕀" => Idealize.ShloMosaic.Ideal

section
variable (x0 : FVec 𝕀 S8192x4608 .bf16) (x1 : FVec 𝕀 S1x4608 .f32) (x2 : IVec S8192x1 32) (x3 : FVec 𝕀 S1x64 .f32)
  (x4 : FVec 𝕀 S4608x4096 .fp8e4m3) (x5 : FVec 𝕀 S1x4096 .f32)

/-- The scales that the stores name. -/
theorem pay18_eq : k0_pay18 (F := 𝕀) x0 x1 x2 x3 x4 x5 = k0_pay5 x0 x1 := by
  have h0 : View.ld (Val := Elt 𝕀) (e' := .bf16) x0 r0_0 = x0 := View.ld_unit_zero (Val := Elt 𝕀) (e := .bf16) (off := ![0, 0]) (by decide) _ x0
  have h1 : View.ld (Val := Elt 𝕀) (e' := .f32) x1 r0_1 = x1 := View.ld_unit_zero (Val := Elt 𝕀) (e := .f32) (off := ![0, 0]) (by decide) _ x1
  unfold k0_pay18; rw [h0, h1]

/-- The codes that the stores name. -/
theorem pay19_eq : k0_pay19 (F := 𝕀) x0 x1 x2 x3 x4 x5 = k0_pay6 x0 x1 := by
  have h0 : View.ld (Val := Elt 𝕀) (e' := .bf16) x0 r0_0 = x0 := View.ld_unit_zero (Val := Elt 𝕀) (e := .bf16) (off := ![0, 0]) (by decide) _ x0
  have h1 : View.ld (Val := Elt 𝕀) (e' := .f32) x1 r0_1 = x1 := View.ld_unit_zero (Val := Elt 𝕀) (e := .f32) (off := ![0, 0]) (by decide) _ x1
  unfold k0_pay19; rw [h0, h1]

/-- What the reference leaves for the queries. -/
theorem out6_eq : out0_6 (F := 𝕀) x0 x1 x2 x3 x4 x5 = qS x1 (fun i => x3 (ix2 0 i)) x4 x5 x0 x2 := by
  funext y
  frame_out
  rw [pay18_eq, pay19_eq, ← ix2_eta y]
  exact q_at x0 x1 x2 x3 x4 x5 (y 0) (y 1)

/-- What the reference leaves for the keys. -/
theorem out7_eq : out0_7 (F := 𝕀) x0 x1 x2 x3 x4 x5 = kS x1 (fun i => x3 (ix2 0 i)) x4 x5 x0 x2 := by
  funext y
  frame_out
  rw [pay18_eq, pay19_eq, ← ix2_eta y]
  exact k_at x0 x1 x2 x3 x4 x5 (y 0) (y 1)

/-- What the reference leaves for the values. -/
theorem out8_eq : out0_8 (F := 𝕀) x0 x1 x2 x3 x4 x5 = vS x1 x4 x5 x0 := by
  funext y
  frame_out
  rw [pay18_eq, pay19_eq, ← ix2_eta y]
  exact v_at x0 x1 x4 x5 (y 0) (y 1)

/-- What the reference leaves for the codes. -/
theorem out9_eq : out0_9 (F := 𝕀) x0 x1 x2 x3 x4 x5 = cS x1 x0 := by
  funext y
  frame_out
  rw [pay19_eq, ← ix2_eta y]
  exact pay6_at x0 x1 (y 0) (y 1)

/-- What the reference leaves for the scales. -/
theorem out10_eq : out0_10 (F := 𝕀) x0 x1 x2 x3 x4 x5 = sS x1 x0 := by
  funext y
  frame_out
  have h1 : y 1 = (0 : Fin 1) := Fin.ext (Nat.lt_one_iff.mp (y 1).isLt)
  rw [pay18_eq, ← ix2_eta y, h1]
  exact pay5_at x0 x1 (y 0)
end

variable (m : (ℓ : Loc nD τ sig) → Buf (Elt 𝕀) ℓ)

/-- The rows. -/
def Xr (c : Dev nD) : FVec 𝕀 S8192x4608 .bf16 := V m c main_v10

theorem index0_0 : ∀ t : Fin cfg0.N, win0_0.index t = ![0, 0] := (by decide +kernel : ∀ t : Fin grid0.N, win0_0.index t = ![0, 0])

/-- Window 0 stages its whole array. -/
theorem iblk0 (c : Dev nD) (t : Fin cfg0.N) : iblk m c 0 t = Xr m c := by
  funext y
  refine congrArg (Xr m c) ?_
  blk_ext [index0_0]

/-- The gains. -/
def Gr (c : Dev nD) : FVec 𝕀 S1x4608 .f32 := V m c main_v11

theorem index0_1 : ∀ t : Fin cfg0.N, win0_1.index t = ![0, 0] := (by decide +kernel : ∀ t : Fin grid0.N, win0_1.index t = ![0, 0])

/-- Window 1 stages its whole array. -/
theorem iblk1 (c : Dev nD) (t : Fin cfg0.N) : iblk m c 1 t = Gr m c := by
  funext y
  refine congrArg (Gr m c) ?_
  blk_ext [index0_1]

/-- The positions. -/
def Tr (c : Dev nD) : IVec S8192x1 32 := V m c main_v12

theorem index0_2 : ∀ t : Fin cfg0.N, win0_2.index t = ![0, 0] := (by decide +kernel : ∀ t : Fin grid0.N, win0_2.index t = ![0, 0])

/-- Window 2 stages its whole array. -/
theorem iblk2 (c : Dev nD) (t : Fin cfg0.N) : iblk m c 2 t = Tr m c := by
  funext y
  refine congrArg (Tr m c) ?_
  blk_ext [index0_2]

/-- The frequencies. -/
def Fr (c : Dev nD) : FVec 𝕀 S1x64 .f32 := V m c main_v13

theorem index0_3 : ∀ t : Fin cfg0.N, win0_3.index t = ![0, 0] := (by decide +kernel : ∀ t : Fin grid0.N, win0_3.index t = ![0, 0])

/-- Window 3 stages its whole array. -/
theorem iblk3 (c : Dev nD) (t : Fin cfg0.N) : iblk m c 3 t = Fr m c := by
  funext y
  refine congrArg (Fr m c) ?_
  blk_ext [index0_3]

/-- The weights. -/
def Wr (c : Dev nD) : FVec 𝕀 S4608x4096 .fp8e4m3 := V m c main_arg3

theorem index0_4 : ∀ t : Fin cfg0.N, win0_4.index t = ![0, 0] := (by decide +kernel : ∀ t : Fin grid0.N, win0_4.index t = ![0, 0])

/-- Window 4 stages its whole array. -/
theorem iblk4 (c : Dev nD) (t : Fin cfg0.N) : iblk m c 4 t = Wr m c := by
  funext y
  refine congrArg (Wr m c) ?_
  blk_ext [index0_4]

/-- The weights' scales. -/
def Sr (c : Dev nD) : FVec 𝕀 S1x4096 .f32 := V m c main_v14

theorem index0_5 : ∀ t : Fin cfg0.N, win0_5.index t = ![0, 0] := (by decide +kernel : ∀ t : Fin grid0.N, win0_5.index t = ![0, 0])

/-- Window 5 stages its whole array. -/
theorem iblk5 (c : Dev nD) (t : Fin cfg0.N) : iblk m c 5 t = Sr m c := by
  funext y
  refine congrArg (Sr m c) ?_
  blk_ext [index0_5]

/-- The array of window 6 after the run. -/
theorem final6 (c : Dev nD) : (dats m 0 c).arrAt 6 cfg0.N = qS (Gr m c) (fun i => Fr m c (ix2 0 i)) (Wr m c) (Sr m c) (Xr m c) (Tr m c) := by
  refine (dats m 0 c).arrAt_eq_of_after_last 6 t0_0 (by decide +kernel) _ fun j => ?_
  blk_simp
  rw [after0_6, iblk0, iblk1, iblk2, iblk3, iblk4, iblk5]
  exact congrFun (out6_eq (Xr m c) (Gr m c) (Tr m c) (Fr m c) (Wr m c) (Sr m c)) j

/-- The array of window 7 after the run. -/
theorem final7 (c : Dev nD) : (dats m 0 c).arrAt 7 cfg0.N = kS (Gr m c) (fun i => Fr m c (ix2 0 i)) (Wr m c) (Sr m c) (Xr m c) (Tr m c) := by
  refine (dats m 0 c).arrAt_eq_of_after_last 7 t0_0 (by decide +kernel) _ fun j => ?_
  blk_simp
  rw [after0_7, iblk0, iblk1, iblk2, iblk3, iblk4, iblk5]
  exact congrFun (out7_eq (Xr m c) (Gr m c) (Tr m c) (Fr m c) (Wr m c) (Sr m c)) j

/-- The array of window 8 after the run. -/
theorem final8 (c : Dev nD) : (dats m 0 c).arrAt 8 cfg0.N = vS (Gr m c) (Wr m c) (Sr m c) (Xr m c) := by
  refine (dats m 0 c).arrAt_eq_of_after_last 8 t0_0 (by decide +kernel) _ fun j => ?_
  blk_simp
  rw [after0_8, iblk0, iblk1, iblk2, iblk3, iblk4, iblk5]
  exact congrFun (out8_eq (Xr m c) (Gr m c) (Tr m c) (Fr m c) (Wr m c) (Sr m c)) j

/-- The array of window 9 after the run. -/
theorem final9 (c : Dev nD) : (dats m 0 c).arrAt 9 cfg0.N = cS (Gr m c) (Xr m c) := by
  refine (dats m 0 c).arrAt_eq_of_after_last 9 t0_0 (by decide +kernel) _ fun j => ?_
  blk_simp
  rw [after0_9, iblk0, iblk1, iblk2, iblk3, iblk4, iblk5]
  exact congrFun (out9_eq (Xr m c) (Gr m c) (Tr m c) (Fr m c) (Wr m c) (Sr m c)) j

/-- The array of window 10 after the run. -/
theorem final10 (c : Dev nD) : (dats m 0 c).arrAt 10 cfg0.N = sS (Gr m c) (Xr m c) := by
  refine (dats m 0 c).arrAt_eq_of_after_last 10 t0_0 (by decide +kernel) _ fun j => ?_
  blk_simp
  rw [after0_10, iblk0, iblk1, iblk2, iblk3, iblk4, iblk5]
  exact congrFun (out10_eq (Xr m c) (Gr m c) (Tr m c) (Fr m c) (Wr m c) (Sr m c)) j

/-! ## The arrays the reference computes with, from the arguments -/

/-- The rows are the first argument, flattened over its two leading axes. -/
theorem Xr_eq (c : Dev nD) : Xr m c = shapeCast S8192x4608 (m ((c : Thread nD τ).loc main_arg0)) shapeCasts_S4x2048x4608_S8192x4608 := by
  unfold Xr; entry_read; rfl

/-- The gains are the second argument as one row. -/
theorem Gr_eq (c : Dev nD) : Gr m c = shapeCast S1x4608 (m ((c : Thread nD τ).loc main_arg1)) shapeCasts_S4608_S1x4608 := by
  unfold Gr; entry_read; rfl

/-- The positions are the third argument as one column. -/
theorem Tr_eq (c : Dev nD) : Tr m c = shapeCast S8192x1 (m ((c : Thread nD τ).loc main_arg2)) shapeCasts_S4x2048_S8192x1 := by
  unfold Tr; entry_read; rfl

/-- The weights are the fourth argument. -/
theorem Wr_eq (c : Dev nD) : Wr m c = m ((c : Thread nD τ).loc main_arg3) := V_main_arg3 m c

/-- The weights' scales are the fifth argument as one row. -/
theorem Sr_eq (c : Dev nD) : Sr m c = shapeCast S1x4096 (m ((c : Thread nD τ).loc main_arg4)) shapeCasts_S4096_S1x4096 := by
  unfold Sr; entry_read; rfl

/-- The frequencies. -/
theorem Fr_at (c : Dev nD) (i : Fin 64) : Fr m c (ix2 0 i) = freq i := by
  unfold Fr
  entry_read
  pointwise
  rfl

/-- The frequencies, as a list. -/
theorem freqs_eq (c : Dev nD) : (fun i : Fin 64 => (Fr m c (ix2 0 i) : EReal)) = freq := funext (Fr_at m c)

/-- Every execution ends with the five results at the row-by-row mathematics and with the arguments unchanged. -/
theorem run_value (ρ : Dev nD → PrngReg) : θ_run defs (onTc (τ := τ) (main (F := 𝕀))) ⟨m, fun _ => 0, ρ⟩ (fun r => ∀ c : Dev nD,
      r.2.mem ((c.tc : Thread nD τ).loc main_v15_0) = qS (Gr m c) freq (Wr m c) (Sr m c) (Xr m c) (Tr m c)
      ∧ r.2.mem ((c.tc : Thread nD τ).loc main_v15_1) = kS (Gr m c) freq (Wr m c) (Sr m c) (Xr m c) (Tr m c)
      ∧ r.2.mem ((c.tc : Thread nD τ).loc main_v15_2) = vS (Gr m c) (Wr m c) (Sr m c) (Xr m c)
      ∧ r.2.mem ((c.tc : Thread nD τ).loc main_v15_3) = cS (Gr m c) (Xr m c)
      ∧ r.2.mem ((c.tc : Thread nD τ).loc main_v15_4) = sS (Gr m c) (Xr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans ((final6 m c).trans (by rw [freqs_eq])),
      ((h c).1 7).trans ((final7 m c).trans (by rw [freqs_eq])),
      ((h c).1 8).trans (final8 m c),
      ((h c).1 9).trans (final9 m c),
      ((h c).1 10).trans (final10 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.ReferenceIdeal.Val

end
-- ==== Proof.Algebraic.lean ====
/- Hand-written, untrusted. The kernel and the reference leave the same five results over the ideal floats: both are the row-by-row mathematics
   of Spec.lean, over arrays that come from equal arguments. -/
module

public import proofs.«01_k».proof.Defs
public import proofs.«01_k».proof.Proof.KernelValue
public import proofs.«01_k».proof.Proof.RefValue

@[expose] public section

set_option maxRecDepth 16384
set_option maxHeartbeats 4000000

noncomputable section

namespace Cert.Algebraic

open Idealize.ShloMosaic Idealize.ShloMosaic.TcCoe Idealize.SL.Sem

local notation "𝕀" => Idealize.ShloMosaic.Ideal

variable (m : (ℓ : Loc Cert.KernelIdeal.nD Cert.KernelIdeal.τ Cert.KernelIdeal.sig) → Buf (Elt 𝕀) ℓ)
  (m' : (ℓ : Loc Cert.ReferenceIdeal.nD Cert.ReferenceIdeal.τ Cert.ReferenceIdeal.sig) → Buf (Elt 𝕀) ℓ)

/-- Equal first arguments give equal rows. -/
theorem X_eq (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Val.Xr m' c = Cert.KernelIdeal.Val.Xa m c :=
  (Cert.ReferenceIdeal.Val.Xr_eq m' c).trans
    ((congrArg (fun a => shapeCast Cert.KernelIdeal.S8192x4608 a Cert.KernelIdeal.Facts₀.shapeCasts_S4x2048x4608_S8192x4608) h).trans (Cert.KernelIdeal.Val.Xa_eq m c).symm)

/-- Equal second arguments give equal gains. -/
theorem G_eq (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Val.Gr m' c = Cert.KernelIdeal.Val.Ga m c :=
  (Cert.ReferenceIdeal.Val.Gr_eq m' c).trans
    ((congrArg (fun a => shapeCast Cert.KernelIdeal.S1x4608 a Cert.KernelIdeal.Facts₀.shapeCasts_S4608_S1x4608) h).trans (Cert.KernelIdeal.Val.Ga_eq m c).symm)

/-- Equal third arguments give equal positions. -/
theorem T_eq (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Val.Tr m' c = Cert.KernelIdeal.Val.Ta m c :=
  (Cert.ReferenceIdeal.Val.Tr_eq m' c).trans
    ((congrArg (fun a => shapeCast Cert.KernelIdeal.S8192x1 a Cert.KernelIdeal.Facts₀.shapeCasts_S4x2048_S8192x1) h).trans (Cert.KernelIdeal.Val.Ta_eq m c).symm)

/-- Equal fourth arguments give equal weights. -/
theorem W_eq (c : Dev Cert.KernelIdeal.nD)
    (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Val.Wr m' c = Cert.KernelIdeal.Val.Wa m c :=
  (Cert.ReferenceIdeal.Val.Wr_eq m' c).trans (h.trans (Cert.KernelIdeal.Val.Wa_eq m c).symm)

/-- Equal fifth arguments give equal scales of the weights. -/
theorem S_eq (c : Dev Cert.KernelIdeal.nD)
    (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Val.Sr m' c = Cert.KernelIdeal.Val.Sa m c :=
  (Cert.ReferenceIdeal.Val.Sr_eq m' c).trans
    ((congrArg (fun a => shapeCast Cert.KernelIdeal.S1x4096 a Cert.KernelIdeal.Facts₀.shapeCasts_S4096_S1x4096) h).trans (Cert.KernelIdeal.Val.Sa_eq m c).symm)

/-- Run on equal arguments, kernel and reference end with the same five results and with their arguments unchanged. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, _, _, Cert.KernelIdeal.Val.run_value m g, ?_⟩
  refine (θ_run Cert.ReferenceIdeal.defs _ _).mono (fun r h c => ?_) (Cert.ReferenceIdeal.Val.run_value m' g')
  obtain ⟨h0, h1, h2, h3, h4, ha⟩ := h c
  obtain ⟨a0, a1, a2, a3, a4⟩ := hagree c
  rw [X_eq m m' c a0, G_eq m m' c a1] at h0 h1 h2 h3 h4
  rw [W_eq m m' c a3, S_eq m m' c a4] at h0 h1 h2
  rw [T_eq m m' c a2] at h0 h1
  exact ⟨h0, h1, h2, h3, h4, ha⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  ⟨IdealRules.bf16_pair.packStatement _, IdealRules.bf16_pair.statement _ _⟩,
  Cert.Algebraic.algebraic⟩

end Cert.Proof

end
